-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32768x768 : Shape := ⟨2, ![32768, 768]⟩
abbrev S8x768 : Shape := ⟨2, ![8, 768]⟩
abbrev S64x768 : Shape := ⟨2, ![64, 768]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S8x768 : S_.BroadcastsInDim S8x768 (![] : Fin 0 → Fin S8x768.rank)
  reducesTo_S8x768_S_d0_1 : S8x768.ReducesTo [0, 1] S_
  bcast_S_S64x768 : S_.BroadcastsInDim S64x768 (![] : Fin 0 → Fin S64x768.rank)
  reducesTo_S64x768_S_d0_1 : S64x768.ReducesTo [0, 1] S_

variable [Facts]

def fn {F : FTy → Type} [FloatOps F] (main_arg0 : FVec F S32768x768 .f32) (main_arg1 : FVec F S8x768 .f32) (main_arg2 : FVec F S64x768 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S8x768 .f32 := Host.absf main_arg1
  let main_cst_0 : FVec F S_ .f32 := constant S_ .f32 0x7F800000#32
  let main_v5 : FVec F S8x768 .f32 := broadcastInDim S8x768 ![] bcast_S_S8x768 main_cst_0
  let main_v6 : IVec S8x768 1 := cmpf .olt main_v4 main_v5
  let main_c_1 : IVec S_ 1 := constantI S_ 1 1#1
  let main_v7 : IVec S_ 1 := (fun x v => Host.reduce IntOp.andi x v reducesTo_S8x768_S_d0_1 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  main_v13
-- ==== Kernel.lean ====
abbrev S32768x768 : Shape := ⟨2, ![32768, 768]⟩
abbrev S8x768 : Shape := ⟨2, ![8, 768]⟩
abbrev S64x768 : Shape := ⟨2, ![64, 768]⟩
abbrev S72x768 : Shape := ⟨2, ![72, 768]⟩
abbrev S32768x64 : Shape := ⟨2, ![32768, 64]⟩
abbrev S_ : Shape := ⟨0, ![]⟩
abbrev S4096x768 : Shape := ⟨2, ![4096, 768]⟩
abbrev S4096x64 : Shape := ⟨2, ![4096, 64]⟩
abbrev S72x4096 : Shape := ⟨2, ![72, 4096]⟩
abbrev S8x4096 : Shape := ⟨2, ![8, 4096]⟩
abbrev S64x4096 : Shape := ⟨2, ![64, 4096]⟩
abbrev S4096 : Shape := ⟨1, ![4096]⟩
abbrev S1x4096 : Shape := ⟨2, ![1, 4096]⟩

abbrev nBuf : Space → Nat
  | .hbm => 10
  | .vmem => 7
  | .smem => 0
  | _ => 0

abbrev bufTy : (tb : Table) → Fin (tcTables nBuf tb) → BufTy
  | .hbm, ⟨0, _⟩ => ⟨S32768x768, .f32⟩
  | .hbm, ⟨1, _⟩ => ⟨S8x768, .f32⟩
  | .hbm, ⟨2, _⟩ => ⟨S64x768, .f32⟩
  | .hbm, ⟨3, _⟩ => ⟨S72x768, .f32⟩
  | .hbm, ⟨4, _⟩ => ⟨S32768x64, .i32⟩
  | .hbm, ⟨5, _⟩ => ⟨S32768x64, .f32⟩
  | .hbm, ⟨6, _⟩ => ⟨S_, .i32⟩
  | .hbm, ⟨7, _⟩ => ⟨S32768x64, .i32⟩
  | .hbm, ⟨8, _⟩ => ⟨S32768x64, .i1⟩
  | .hbm, ⟨9, _⟩ => ⟨S32768x64, .i1⟩
  | .local _ .vmem, ⟨0, _⟩ => ⟨S72x768, .f32⟩
  | .local _ .vmem, ⟨1, _⟩ => ⟨S4096x768, .f32⟩
  | .local _ .vmem, ⟨2, _⟩ => ⟨S4096x768, .f32⟩
  | .local _ .vmem, ⟨3, _⟩ => ⟨S4096x64, .i32⟩
  | .local _ .vmem, ⟨4, _⟩ => ⟨S4096x64, .i32⟩
  | .local _ .vmem, ⟨5, _⟩ => ⟨S4096x64, .f32⟩
  | .local _ .vmem, ⟨6, _⟩ => ⟨S4096x64, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1_0 : Ref sig .tc := ⟨.hbm, 4, rfl⟩
abbrev main_v0_1 : Ref sig .tc := ⟨.hbm, 5, rfl⟩
abbrev main_call0_c : Ref sig .tc := ⟨.hbm, 6, rfl⟩
abbrev main_call0_v2 : Ref sig .tc := ⟨.hbm, 7, rfl⟩
abbrev main_call0_v3 : Ref sig .tc := ⟨.hbm, 8, rfl⟩
abbrev main_v0_0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S72x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32768x768 : Shape := ⟨2, ![32768, 768]⟩
abbrev S8x768 : Shape := ⟨2, ![8, 768]⟩
abbrev S64x768 : Shape := ⟨2, ![64, 768]⟩
abbrev S768x8 : Shape := ⟨2, ![768, 8]⟩
abbrev S32768x8 : Shape := ⟨2, ![32768, 8]⟩
abbrev S_ : Shape := ⟨0, ![]⟩
abbrev S32768 : Shape := ⟨1, ![32768]⟩
abbrev S32768x1 : Shape := ⟨2, ![32768, 1]⟩
abbrev S768x64 : Shape := ⟨2, ![768, 64]⟩
abbrev S32768x64 : Shape := ⟨2, ![32768, 64]⟩
abbrev S32768x8x8 : Shape := ⟨3, ![32768, 8, 8]⟩
abbrev S32768x8x1 : Shape := ⟨3, ![32768, 8, 1]⟩
abbrev S32768x2 : Shape := ⟨2, ![32768, 2]⟩
abbrev S32768x2x1 : Shape := ⟨3, ![32768, 2, 1]⟩
abbrev S32768x2x2 : Shape := ⟨3, ![32768, 2, 2]⟩

abbrev nBuf : Space → Nat
  | .hbm => 97
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S8x768, .f32⟩
  | .hbm, ⟨2, _⟩ => ⟨S64x768, .f32⟩
  | .hbm, ⟨3, _⟩ => ⟨S768x8, .f32⟩
  | .hbm, ⟨4, _⟩ => ⟨S32768x8, .f32⟩
  | .hbm, ⟨5, _⟩ => ⟨S_, .f32⟩
  | .hbm, ⟨6, _⟩ => ⟨S32768, .f32⟩
  | .hbm, ⟨7, _⟩ => ⟨S_, .f32⟩
  | .hbm, ⟨8, _⟩ => ⟨S32768, .f32⟩
  | .hbm, ⟨9, _⟩ => ⟨S32768, .f32⟩
  | .hbm, ⟨10, _⟩ => ⟨S32768x1, .f32⟩
  | .hbm, ⟨11, _⟩ => ⟨S32768x8, .f32⟩
  | .hbm, ⟨12, _⟩ => ⟨S32768x8, .f32⟩
  | .hbm, ⟨13, _⟩ => ⟨S32768x8, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S32768x8, .f32⟩
  | .hbm, ⟨18, _⟩ => ⟨S32768x8, .f32⟩
  | .hbm, ⟨19, _⟩ => ⟨S_, .f32⟩
  | .hbm, ⟨20, _⟩ => ⟨S32768x8, .f32⟩
  | .hbm, ⟨21, _⟩ => ⟨S32768x8, .i1⟩
  | .hbm, ⟨22, _⟩ => ⟨S768x64, .f32⟩
  | .hbm, ⟨23, _⟩ => ⟨S32768x64, .f32⟩
  | .hbm, ⟨24, _⟩ => ⟨S32768x8x8, .f32⟩
  | .hbm, ⟨25, _⟩ => ⟨S_, .f32⟩
  | .hbm, ⟨26, _⟩ => ⟨S32768x8, .f32⟩
  | .hbm, ⟨27, _⟩ => ⟨S_, .f32⟩
  | .hbm, ⟨28, _⟩ => ⟨S32768x8, .f32⟩
  | .hbm, ⟨29, _⟩ => ⟨S32768x8, .f32⟩
  | .hbm, ⟨30, _⟩ => ⟨S32768x8x1, .f32⟩
  | .hbm, ⟨31, _⟩ => ⟨S32768x8x8, .f32⟩
  | .hbm, ⟨32, _⟩ => ⟨S32768x8x8, .f32⟩
  | .hbm, ⟨33, _⟩ => ⟨S32768x8x8, .f32⟩
  | .hbm, ⟨34, _⟩ => ⟨S_, .f32⟩
  | .hbm, ⟨35, _⟩ => ⟨S32768x8, .f32⟩
  | .hbm, ⟨36, _⟩ => ⟨S32768x8x1, .f32⟩
  | .hbm, ⟨37, _⟩ => ⟨S32768x8x8, .f32⟩
  | .hbm, ⟨38, _⟩ => ⟨S32768x8x8, .f32⟩
  | .hbm, ⟨39, _⟩ => ⟨S_, .f32⟩
  | .hbm, ⟨40, _⟩ => ⟨S32768x8x8, .f32⟩
  | .hbm, ⟨41, _⟩ => ⟨S32768x8x8, .i1⟩
  | .hbm, ⟨42, _⟩ => ⟨S32768x8x1, .i1⟩
  | .hbm, ⟨43, _⟩ => ⟨S32768x8x8, .i1⟩
  | .hbm, ⟨44, _⟩ => ⟨S32768x8x8, .i1⟩
  | .hbm, ⟨45, _⟩ => ⟨S32768x8x1, .f32⟩
  | .hbm, ⟨46, _⟩ => ⟨S32768x8x8, .f32⟩
  | .hbm, ⟨47, _⟩ => ⟨S32768x8x8, .f32⟩
  | .hbm, ⟨48, _⟩ => ⟨S32768x64, .i1⟩
  | .hbm, ⟨49, _⟩ => ⟨S32768x64, .f32⟩
  | .hbm, ⟨50, _⟩ => ⟨S32768x64, .i32⟩
  | .hbm, ⟨51, _⟩ => ⟨S_, .i32⟩
  | .hbm, ⟨52, _⟩ => ⟨S32768, .i32⟩
  | .hbm, ⟨53, _⟩ => ⟨S32768x2, .f32⟩
  | .hbm, ⟨54, _⟩ => ⟨S32768x2, .i32⟩
  | .hbm, ⟨55, _⟩ => ⟨S32768, .i32⟩
  | .hbm, ⟨56, _⟩ => ⟨S32768x1, .i32⟩
  | .hbm, ⟨57, _⟩ => ⟨S_, .i1⟩
  | .hbm, ⟨58, _⟩ => ⟨S32768x64, .i1⟩
  | .hbm, ⟨59, _⟩ => ⟨S_, .i32⟩
  | .hbm, ⟨60, _⟩ => ⟨S32768x1, .i32⟩
  | .hbm, ⟨61, _⟩ => ⟨S32768x1, .i1⟩
  | .hbm, ⟨62, _⟩ => ⟨S_, .i32⟩
  | .hbm, ⟨63, _⟩ => ⟨S32768x1, .i32⟩
  | .hbm, ⟨64, _⟩ => ⟨S32768x1, .i32⟩
  | .hbm, ⟨65, _⟩ => ⟨S32768x1, .i32⟩
  | .hbm, ⟨66, _⟩ => ⟨S_, .i32⟩
  | .hbm, ⟨67, _⟩ => ⟨S32768x2, .i32⟩
  | .hbm, ⟨68, _⟩ => ⟨S32768x2, .i1⟩
  | .hbm, ⟨69, _⟩ => ⟨S_, .i32⟩
  | .hbm, ⟨70, _⟩ => ⟨S32768x2, .i32⟩
  | .hbm, ⟨71, _⟩ => ⟨S32768x2, .i32⟩
  | .hbm, ⟨72, _⟩ => ⟨S32768x2, .i32⟩
  | .hbm, ⟨73, _⟩ => ⟨S32768x2, .i32⟩
  | .hbm, ⟨74, _⟩ => ⟨S32768x2x1, .i32⟩
  | .hbm, ⟨75, _⟩ => ⟨S32768x2x1, .i32⟩
  | .hbm, ⟨76, _⟩ => ⟨S32768x2x2, .i32⟩
  | .hbm, ⟨77, _⟩ => ⟨S_, .i1⟩
  | .hbm, ⟨78, _⟩ => ⟨S32768x2, .i1⟩
  | .hbm, ⟨79, _⟩ => ⟨S32768x64, .i1⟩
  | .hbm, ⟨80, _⟩ => ⟨S_, .i32⟩
  | .hbm, ⟨81, _⟩ => ⟨S32768, .i32⟩
  | .hbm, ⟨82, _⟩ => ⟨S32768, .i1⟩
  | .hbm, ⟨83, _⟩ => ⟨S32768x1, .i1⟩
  | .hbm, ⟨84, _⟩ => ⟨S32768x64, .i1⟩
  | .hbm, ⟨85, _⟩ => ⟨S32768x64, .i1⟩
  | .hbm, ⟨86, _⟩ => ⟨S32768x64, .f32⟩
  | .hbm, ⟨87, _⟩ => ⟨S32768x64, .f32⟩
  | .hbm, ⟨88, _⟩ => ⟨S_, .f32⟩
  | .hbm, ⟨89, _⟩ => ⟨S32768, .f32⟩
  | .hbm, ⟨90, _⟩ => ⟨S32768x1, .f32⟩
  | .hbm, ⟨91, _⟩ => ⟨S_, .f32⟩
  | .hbm, ⟨92, _⟩ => ⟨S_, .f32⟩
  | .hbm, ⟨93, _⟩ => ⟨S32768x1, .f32⟩
  | .hbm, ⟨94, _⟩ => ⟨S32768x1, .f32⟩
  | .hbm, ⟨95, _⟩ => ⟨S32768x64, .f32⟩
  | .hbm, ⟨96, _⟩ => ⟨S32768x64, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_c : Ref sig .tc := ⟨.hbm, 51, rfl⟩
abbrev main_v40 : Ref sig .tc := ⟨.hbm, 52, rfl⟩
abbrev main_values : Ref sig .tc := ⟨.hbm, 53, rfl⟩
abbrev main_indices : Ref sig .tc := ⟨.hbm, 54, rfl⟩
abbrev main_v41 : Ref sig .tc := ⟨.hbm, 55, rfl⟩
abbrev main_v42 : Ref sig .tc := ⟨.hbm, 56, rfl⟩
abbrev main_c_7 : Ref sig .tc := ⟨.hbm, 57, rfl⟩
abbrev main_v43 : Ref sig .tc := ⟨.hbm, 58, rfl⟩
abbrev main_c_8 : Ref sig .tc := ⟨.hbm, 59, rfl⟩
abbrev main_v44 : Ref sig .tc := ⟨.hbm, 60, rfl⟩
abbrev main_v45 : Ref sig .tc := ⟨.hbm, 61, rfl⟩
abbrev main_c_9 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_10 : Ref sig .tc := ⟨.hbm, 66, rfl⟩
abbrev main_v49 : Ref sig .tc := ⟨.hbm, 67, rfl⟩
abbrev main_v50 : Ref sig .tc := ⟨.hbm, 68, rfl⟩
abbrev main_c_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_12 : Ref sig .tc := ⟨.hbm, 77, rfl⟩
abbrev main_v58 : Ref sig .tc := ⟨.hbm, 78, rfl⟩
abbrev main_v59 : Ref sig .tc := ⟨.hbm, 79, rfl⟩
abbrev main_c_13 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_call0_v0 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_14 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_call1_v0 : Ref sig .tc := ⟨.hbm, 92, rfl⟩
abbrev main_call1_v1 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩

abbrev nD : Nat := 1
abbrev τ : Topo := Topo.v7x

variable {F : FTy → Type} [FloatOps F]
-- ==== Proof.Spec.lean ====
/-
  What the router computes for one row, in real numbers: the softmax over the eight groups, the softmax over the eight
  experts of each group, their product, the experts that pass both thresholds, the two experts of greatest weight, and the
  weights of the chosen experts divided by their sum. Both programs are proved to compute these functions.
-/
module

public import Idealize.ShloMosaic.Lib.Pointwise
public import Idealize.ShloMosaic.Lib.IdealHost
public import Idealize.ShloMosaic.Lib.WordCmp

@[expose] public section

noncomputable section

open Idealize.ShloMosaic
open scoped BigOperators Classical

namespace Cert.Router

/-- The group of expert `k`. -/
def grp (k : Fin 64) : Fin 8 := ⟨k.val / 8, by have := k.isLt; omega⟩

/-- The expert at position `j` of group `i`. -/
def expert (i j : Fin 8) : Fin 64 := ⟨8 * i.val + j.val, by have := i.isLt; have := j.isLt; omega⟩

/-- The expert at a position of a group is in that group. -/
theorem grp_expert (i j : Fin 8) : grp (expert i j) = i :=
  Fin.ext (by show (8 * i.val + j.val) / 8 = i.val; have := j.isLt; omega)

/-- An expert stands at its own position of its own group. -/
theorem expert_grp (k : Fin 64) : expert (grp k) ⟨k.val % 8, Nat.mod_lt _ (by norm_num)⟩ = k :=
  Fin.ext (by show 8 * (k.val / 8) + k.val % 8 = k.val; omega)

/-- The softmax over the eight groups. -/
def groupProb (g : Fin 8 → ℝ) (i : Fin 8) : ℝ := Real.exp (g i) / ∑ j, Real.exp (g j)

/-- The softmax of an expert within its group. -/
def expertProb (e : Fin 64 → ℝ) (k : Fin 64) : ℝ := Real.exp (e k) / ∑ j, Real.exp (e (expert (grp k) j))

/-- The weight of an expert: the product of the two probabilities. -/
def weight (g : Fin 8 → ℝ) (e : Fin 64 → ℝ) (k : Fin 64) : ℝ := groupProb g (grp k) * expertProb e k

/-- An expert passes when its group's probability and its own are at least 1/8. -/
def Valid (g : Fin 8 → ℝ) (e : Fin 64 → ℝ) (k : Fin 64) : Prop := 1 / 8 ≤ groupProb g (grp k) ∧ 1 / 8 ≤ expertProb e k

/-- Expert `i` ranks before expert `j`: its weight is greater, or the weights are equal and `i` is the lower number. -/
def Beats (w : Fin 64 → ℝ) (i j : Fin 64) : Prop := w j < w i ∨ (w i = w j ∧ i < j)

/-- Expert `k` is one of the two first in rank: fewer than two rank before it. -/
def Top2 (w : Fin 64 → ℝ) (k : Fin 64) : Prop := (Finset.univ.filter fun j => Beats w j k).card < 2

/-- Fewer than two experts pass. -/
def Few (g : Fin 8 → ℝ) (e : Fin 64 → ℝ) : Prop := (Finset.univ.filter fun k => Valid g e k).card < 2

/-- The chosen experts: those that pass, or the two first in rank when fewer than two pass. -/
def Chosen (g : Fin 8 → ℝ) (e : Fin 64 → ℝ) (k : Fin 64) : Prop :=
  if Few g e then Top2 (weight g e) k else Valid g e k

/-- The weight of a chosen expert, zero for the others. -/
def kept (g : Fin 8 → ℝ) (e : Fin 64 → ℝ) (k : Fin 64) : ℝ := if Chosen g e k then weight g e k else 0

/-- The first result, the mask, at one expert. -/
def maskAt (g : Fin 8 → ℝ) (e : Fin 64 → ℝ) (k : Fin 64) : BitVec 1 := BitVec.ofBool (decide (Chosen g e k))

/-- The second result, the normalized weight, at one expert. -/
def shareAt (g : Fin 8 → ℝ) (e : Fin 64 → ℝ) (k : Fin 64) : EReal :=
  Ideal.div (kept g e k : EReal) (max ((∑ j, kept g e j : ℝ) : EReal) (Ideal.ofBits .f32 0x3089705F#32))

/-- A group's probability is positive. -/
theorem groupProb_pos (g : Fin 8 → ℝ) (i : Fin 8) : 0 < groupProb g i :=
  div_pos (Real.exp_pos _) (Finset.sum_pos (fun _ _ => Real.exp_pos _) Finset.univ_nonempty)

/-- An expert's probability is positive. -/
theorem expertProb_pos (e : Fin 64 → ℝ) (k : Fin 64) : 0 < expertProb e k :=
  div_pos (Real.exp_pos _) (Finset.sum_pos (fun _ _ => Real.exp_pos _) Finset.univ_nonempty)

/-- An expert's weight is positive. -/
theorem weight_pos (g : Fin 8 → ℝ) (e : Fin 64 → ℝ) (k : Fin 64) : 0 < weight g e k :=
  mul_pos (groupProb_pos g _) (expertProb_pos e k)

/-! ## Sums and maxima of reals, read in the extended reals -/

/-- A finite sum of reals is the same in the extended reals. -/
theorem coe_sum {ι : Type} (s : Finset ι) (f : ι → ℝ) : ∑ i ∈ s, (f i : EReal) = ((∑ i ∈ s, f i : ℝ) : EReal) := by
  induction s using Finset.induction_on with
  | empty => simp
  | insert a s ha ih => rw [Finset.sum_insert ha, Finset.sum_insert ha, ih, EReal.coe_add]

/-- The running maximum from -∞ is at least each entry. -/
theorem le_fold_max {n : ℕ} (f : Fin n → EReal) (k : Fin n) : f k ≤ Finset.univ.fold max ⊥ f :=
  Finset.le_fold_max (f k) |>.2 (Or.inr ⟨k, Finset.mem_univ k, le_rfl⟩)

/-- The running maximum from -∞ is an entry that is at least each entry. -/
theorem fold_max_eq {n : ℕ} (f : Fin n → EReal) (a : Fin n) (ha : ∀ k, f k ≤ f a) : Finset.univ.fold max ⊥ f = f a :=
  le_antisymm (Finset.fold_max_le (f a) |>.2 ⟨bot_le, fun k _ => ha k⟩) (le_fold_max f a)

/-- The maximum of finitely many reals, at least one, is a real. -/
theorem fold_max_coe {n : ℕ} [NeZero n] (f : Fin n → ℝ) : ∃ M : ℝ, Finset.univ.fold max ⊥ (fun k => (f k : EReal)) = (M : EReal) := by
  obtain ⟨a, ha⟩ := Finite.exists_max f
  exact ⟨f a, fold_max_eq (fun k => (f k : EReal)) a fun k => EReal.coe_le_coe_iff.2 (ha k)⟩

/-- A quotient of reals with positive divisor. -/
theorem div_coe_coe {x y : ℝ} (hy : 0 < y) : Ideal.div (x : EReal) (y : EReal) = ((x / y : ℝ) : EReal) := by
  rw [Ideal.div_coe hy.ne', ← EReal.coe_mul, mul_one_div]

/-- The exponential of a difference of reals. -/
theorem exp_sub_coe (x M : ℝ) : Ideal.exp ((x : EReal) - (M : EReal)) = ((Real.exp (x - M) : ℝ) : EReal) := by
  rw [← EReal.coe_sub, Ideal.exp_coe]

/-- A softmax does not depend on the number subtracted from every logit. -/
theorem softmax_shift {n : ℕ} (x : ℝ) (f : Fin n → ℝ) (M : ℝ) :
    Real.exp (x - M) / ∑ j, Real.exp (f j - M) = Real.exp x / ∑ j, Real.exp (f j) := by
  simp only [Real.exp_sub, ← Finset.sum_div]
  exact div_div_div_cancel_right₀ (Real.exp_ne_zero M) _ _

/-- The softmax as both programs write it, exponentials of logits less `M` divided by their sum. -/
theorem softmax_coe {n : ℕ} [NeZero n] (x : ℝ) (f : Fin n → ℝ) (M : ℝ) :
    Ideal.div (Ideal.exp ((x : EReal) - (M : EReal))) (∑ j, Ideal.exp ((f j : EReal) - (M : EReal)))
      = ((Real.exp x / ∑ j, Real.exp (f j) : ℝ) : EReal) := by
  simp only [exp_sub_coe, coe_sum]
  rw [div_coe_coe (Finset.sum_pos (fun _ _ => Real.exp_pos _) Finset.univ_nonempty), softmax_shift]

/-! ## The constants -/

/-- The pattern of the threshold is 1/8. -/
theorem ofBits_eighth : Ideal.ofBits .f32 0x3E000000#32 = (((1 : ℝ) / 8 : ℝ) : EReal) := by
  simp [Ideal.ofBits, Ideal.ieee, -EReal.coe_mul]; norm_num

/-- The pattern `0xFF800000` is -∞. -/
theorem ofBits_bot : Ideal.ofBits .f32 0xFF800000#32 = (⊥ : EReal) := by
  simp [Ideal.ofBits, Ideal.ieee]

/-- The pattern `0xBF800000` is -1. -/
theorem ofBits_neg_one : Ideal.ofBits .f32 0xBF800000#32 = ((-(1 : ℝ) : ℝ) : EReal) := by
  simp [Ideal.ofBits, Ideal.ieee, -EReal.coe_mul, -EReal.coe_neg]; norm_num

/-- The pattern `0x40000000` is 2. -/
theorem ofBits_two : Ideal.ofBits .f32 0x40000000#32 = ((2 : ℝ) : EReal) := by
  simp [Ideal.ofBits, Ideal.ieee, -EReal.coe_mul]; norm_num

/-- The pattern `0x3F000000` is 1/2. -/
theorem ofBits_half : Ideal.ofBits .f32 0x3F000000#32 = (((1 : ℝ) / 2 : ℝ) : EReal) := by
  simp [Ideal.ofBits, Ideal.ieee, -EReal.coe_mul]; norm_num

/-! ## The two first in rank -/

/-- No expert ranks before itself. -/
theorem Beats.irrefl (w : Fin 64 → ℝ) (i : Fin 64) : ¬ Beats w i i := fun h => h.elim (lt_irrefl _) fun h => lt_irrefl _ h.2

/-- Two experts do not each rank before the other. -/
theorem Beats.asymm {w : Fin 64 → ℝ} {i j : Fin 64} (h : Beats w i j) : ¬ Beats w j i := by
  rintro (h' | ⟨h', l'⟩) <;> rcases h with h | ⟨h, l⟩
  · exact lt_asymm h h'
  · exact absurd h' (by rw [h]; exact lt_irrefl _)
  · exact absurd h (by rw [h']; exact lt_irrefl _)
  · exact lt_asymm l l'

/-- If `a` ranks before `b` and both before every other expert, they are the two first in rank. -/
theorem top2_iff {w : Fin 64 → ℝ} {a b : Fin 64} (hab : Beats w a b)
    (h : ∀ j, j ≠ a → j ≠ b → Beats w a j ∧ Beats w b j) (k : Fin 64) : Top2 w k ↔ k = a ∨ k = b := by
  have hne : a ≠ b := fun e => Beats.irrefl w a (by rw [← e] at hab; exact hab)
  constructor
  · intro hk
    by_contra hn
    have hn := not_or.1 hn
    obtain ⟨h1, h2⟩ := h k hn.1 hn.2
    have : ({a, b} : Finset (Fin 64)).card ≤ (Finset.univ.filter fun j => Beats w j k).card :=
      Finset.card_le_card fun j hj => by
        rcases Finset.mem_insert.1 hj with rfl | hj
        · exact Finset.mem_filter.2 ⟨Finset.mem_univ _, h1⟩
        · rw [Finset.mem_singleton.1 hj]; exact Finset.mem_filter.2 ⟨Finset.mem_univ _, h2⟩
    rw [Finset.card_pair hne] at this
    exact absurd hk (Nat.not_lt.2 this)
  · intro hk
    have : (Finset.univ.filter fun j => Beats w j k).card ≤ ({a} : Finset (Fin 64)).card :=
      Finset.card_le_card fun j hj => by
        have hj := (Finset.mem_filter.1 hj).2
        refine Finset.mem_singleton.2 (by_contra fun hja => ?_)
        rcases hk with rfl | rfl
        · by_cases hjb : j = b
          · rw [hjb] at hj; exact hab.asymm hj
          · exact (h j hja hjb).1.asymm hj
        · by_cases hjb : j = k
          · rw [hjb] at hj; exact Beats.irrefl w _ hj
          · exact (h j hja hjb).2.asymm hj
    exact Nat.lt_of_le_of_lt this (by simp)

end Cert.Router

end
-- ==== Proof.FirstMax.lean ====
/-
  The kernel's way of finding the two first in rank: the greatest weight, the lowest number at which it stands, the same
  again after that entry has been replaced by -1. On positive weights the two numbers are the two first in rank.
-/
module

public import proofs.«01_k».proof.Proof.Spec

@[expose] public section

noncomputable section

open Idealize.ShloMosaic
open scoped BigOperators

namespace Cert.Router

/-- The signed minimum of two words, read as integers. -/
theorem toInt_min (x y : BitVec 32) : (IntOp.minsi x y).toInt = min x.toInt y.toInt := by
  unfold IntOp.minsi
  by_cases h : x.slt y = true
  · rw [if_pos h]; rw [BitVec.slt_iff_toInt_lt] at h; exact (min_eq_left h.le).symm
  · rw [if_neg h]; rw [BitVec.slt_iff_toInt_lt] at h; exact (min_eq_right (not_lt.1 h)).symm

/-- The word of a number below 64, read as an integer. -/
theorem toInt_word (k : Fin 64) : (BitVec.ofNat 32 k.val).toInt = (k.val : ℤ) := by
  have := k.isLt
  rw [BitVec.toInt_eq_toNat_cond, BitVec.toNat_ofNat, Nat.mod_eq_of_lt (by omega)]
  exact if_pos (by omega)

/-- Words of numbers below 64 are equal exactly when the numbers are. -/
theorem word_inj (k a : Fin 64) : BitVec.ofNat 32 k.val = BitVec.ofNat 32 a.val ↔ k = a := by
  refine ⟨fun h => Fin.ext ?_, fun h => by rw [h]⟩
  have := congrArg BitVec.toInt h
  rw [toInt_word, toInt_word] at this
  exact_mod_cast this

/-- The running signed minimum of words of which one holds `a` and none less is the word of `a`. -/
theorem fold_minsi_eq (f : Fin 64 → BitVec 32) (a : Fin 64) (h : ∀ k, (a.val : ℤ) ≤ (f k).toInt)
    (ha : (f a).toInt = (a.val : ℤ)) : Finset.univ.fold IntOp.minsi 2147483647#32 f = BitVec.ofNat 32 a.val := by
  apply BitVec.eq_of_toInt_eq
  rw [← Finset.fold_hom (op := IntOp.minsi) (op' := min) toInt_min, toInt_word]
  have hal := a.isLt
  refine le_antisymm (Finset.fold_min_le _ |>.2 (Or.inr ⟨a, Finset.mem_univ a, ha.le⟩)) ?_
  refine Finset.le_fold_min _ |>.2 ⟨?_, fun k _ => h k⟩
  rw [show (2147483647#32).toInt = 2147483647 from by decide]
  omega

/-- Entry `a` is the first of the greatest entries of `v`. -/
def Best (v : Fin 64 → EReal) (a : Fin 64) : Prop := ∀ k, v k < v a ∨ (v k = v a ∧ a ≤ k)

/-- No entry is greater than the best one. -/
theorem Best.le {v : Fin 64 → EReal} {a : Fin 64} (h : Best v a) (k : Fin 64) : v k ≤ v a :=
  (h k).elim le_of_lt fun h => h.1.le

/-- There is a first greatest entry. -/
theorem exists_best (v : Fin 64 → EReal) : ∃ a, Best v a := by
  classical
  obtain ⟨c, hc⟩ := Finite.exists_max v
  have hne : (Finset.univ.filter fun k => v k = v c).Nonempty := ⟨c, Finset.mem_filter.2 ⟨Finset.mem_univ _, rfl⟩⟩
  refine ⟨(Finset.univ.filter fun k => v k = v c).min' hne, fun k => ?_⟩
  have hm := (Finset.mem_filter.1 (Finset.min'_mem _ hne)).2
  rw [hm]
  rcases (hc k).lt_or_eq with h | h
  · exact Or.inl h
  · exact Or.inr ⟨h, Finset.min'_le _ k (by exact Finset.mem_filter.2 ⟨Finset.mem_univ k, h⟩)⟩

/-- The lowest number at which the greatest entry stands, found as a signed minimum over the numbers with 64 in the other
    places, is the number of the first greatest entry. -/
theorem firstMax (v : Fin 64 → EReal) (a : Fin 64) (ha : Best v a)
    [inst : ∀ x, Decidable (v x = Finset.univ.fold max ⊥ v)] :
    (Finset.univ.fold IntOp.minsi 2147483647#32 fun x =>
      if v x = Finset.univ.fold max ⊥ v then BitVec.ofNat 32 x.val else 64#32) = BitVec.ofNat 32 a.val := by
  have hm := fold_max_eq v a ha.le
  refine fold_minsi_eq _ a (fun k => ?_) ?_
  · by_cases hk : v k = Finset.univ.fold max ⊥ v
    · rw [if_pos hk, toInt_word]
      rw [hm] at hk
      rcases ha k with h | h
      · exact absurd hk h.ne
      · exact_mod_cast h.2
    · rw [if_neg hk, show (64#32).toInt = 64 from by decide]
      have := a.isLt
      omega
  · rw [if_pos hm.symm, toInt_word]

/-- On positive weights, the first greatest entry and the first greatest entry after that one has become -1 are the two
    first in rank. -/
theorem top2_of_best {w : Fin 64 → ℝ} (hw : ∀ k, 0 < w k) {a b : Fin 64} (ha : Best (fun k => (w k : EReal)) a)
    (hb : Best (fun k => if k = a then ((-(1 : ℝ) : ℝ) : EReal) else (w k : EReal)) b) (k : Fin 64) :
    Top2 w k ↔ k = a ∨ k = b := by
  have hneg : ∀ j, ((-(1 : ℝ) : ℝ) : EReal) < (w j : EReal) := fun j =>
    EReal.coe_lt_coe_iff.2 (by have := hw j; linarith)
  have hba : b ≠ a := by
    rintro rfl
    obtain ⟨j, hj⟩ := exists_ne b
    have h := hb.le j
    simp only [if_neg hj, if_true] at h
    exact absurd (hneg j) (not_lt.2 h)
  have beats_a : ∀ j, j ≠ a → Beats w a j := fun j hj => by
    rcases ha j with h | ⟨h, l⟩
    · exact Or.inl (EReal.coe_lt_coe_iff.1 h)
    · exact Or.inr ⟨(EReal.coe_eq_coe_iff.1 h).symm, lt_of_le_of_ne l hj.symm⟩
  refine top2_iff (beats_a b hba) (fun j hja hjb => ⟨beats_a j hja, ?_⟩) k
  have h := hb j
  simp only [if_neg hja, if_neg hba] at h
  rcases h with h | ⟨h, l⟩
  · exact Or.inl (EReal.coe_lt_coe_iff.1 h)
  · exact Or.inr ⟨(EReal.coe_eq_coe_iff.1 h).symm, lt_of_le_of_ne l (Ne.symm hjb)⟩

end Cert.Router

end
-- ==== Proof.KernelRow.lean ====
/-
  What one block of the kernel computes: the two arrays the body stores, read at row `r` of the block and expert `k`, are
  the mask and the share of Spec.lean for that row's logits.
-/
module

public import proofs.«01_k».proof.Proof.Gen.KernelIdeal.Frame
public import proofs.«01_k».proof.Proof.FirstMax

@[expose] public section

set_option maxRecDepth 16384

noncomputable section

open Idealize.ShloMosaic
open scoped BigOperators Classical

namespace Cert.Router

open Cert.KernelIdeal Cert.KernelIdeal.Gen

/-- Row `e` of the concatenated weights that belongs to group `i`. -/
def rowG (i : Fin 8) : Fin 72 := ⟨i.val, by have := i.isLt; omega⟩

/-- Row `e` of the concatenated weights that belongs to expert `k`. -/
def rowE (k : Fin 64) : Fin 72 := ⟨8 + k.val, by have := k.isLt; omega⟩

variable {v0 : Vec Ideal S4096x768 .f32} {v1 : Vec Ideal S72x768 .f32} {r : Fin 4096}

/-- The logits: row `i` of the weights against row `r` of the block. -/
theorem pay2_at (v0 : Vec Ideal S4096x768 .f32) (v1 : Vec Ideal S72x768 .f32) (i : Fin 72) (r : Fin 4096) :
    k0_pay2 v0 v1 (ix2 i r) = ∑ x, v1 (ix2 i x) * v0 (ix2 r x) := by
  pointwise [k0_pay2]

/-- The group softmax. -/
theorem pay3_at {g : Fin 8 → ℝ} (hg : ∀ i, k0_pay2 v0 v1 (ix2 (rowG i) r) = (g i : EReal)) (i : Fin 8) :
    k0_pay3 v0 v1 (ix2 i r) = (groupProb g i : EReal) := by
  have hg' : ∀ (i : Fin 8) (h : i.val < 72), k0_pay2 v0 v1 (ix2 (⟨i.val, h⟩ : Fin 72) r) = (g i : EReal) := fun i _ => hg i
  pointwise [k0_pay3]
  simp only [hg', ofBits_bot]
  obtain ⟨M, hM⟩ := fold_max_coe g
  rw [hM, softmax_coe]
  rfl

/-- The exponentials of the experts' logits, less one number for the whole row. -/
theorem pay4_at {e : Fin 64 → ℝ} (he : ∀ k, k0_pay2 v0 v1 (ix2 (rowE k) r) = (e k : EReal)) :
    ∃ M : ℝ, ∀ k, k0_pay4 v0 v1 (ix2 k r) = ((Real.exp (e k - M) : ℝ) : EReal) := by
  have he' : ∀ (k : Fin 64) (h : 8 + k.val < 72), k0_pay2 v0 v1 (ix2 (⟨8 + k.val, h⟩ : Fin 72) r) = (e k : EReal) := fun k _ => he k
  obtain ⟨M, hM⟩ := fold_max_coe e
  refine ⟨M, fun k => ?_⟩
  pointwise [k0_pay4]
  simp only [he', ofBits_bot]
  rw [hM, exp_sub_coe]

/-- A group's probability copied to the group's experts. -/
theorem pay12_at (k : Fin 64) :
    k0_pay12 (k0_pay3 v0 v1) (k0_pay6 v0 v1) (k0_pay8 v0 v1) (k0_pay10 v0 v1) (ix2 k r) = k0_pay3 v0 v1 (ix2 (grp k) r) := by
  pointwise [k0_pay12, k0_pay6, k0_pay8, k0_pay10]
  have hk := k.isLt
  split_ifs <;> exact congrArg (fun i => k0_pay3 v0 v1 (ix2 i r)) (Fin.ext (by simp [grp]; omega))

/-- The experts' exponentials, each divided by the sum over its group. -/
theorem pay13_at (k : Fin 64) :
    k0_pay13 (k0_pay4 v0 v1) (k0_pay5 v0 v1) (k0_pay7 v0 v1) (k0_pay9 v0 v1) (k0_pay11 v0 v1) (ix2 k r)
      = Ideal.div (k0_pay4 v0 v1 (ix2 k r)) (∑ j, k0_pay4 v0 v1 (ix2 (expert (grp k) j) r)) := by
  pointwise [k0_pay13, k0_pay5, k0_pay7, k0_pay9, k0_pay11]
  have hk := k.isLt
  refine congrArg (Ideal.div _) ?_
  split_ifs <;> exact Finset.sum_congr rfl fun j _ =>
    congrArg (fun i => k0_pay4 v0 v1 (ix2 i r)) (Fin.ext (by simp [grp, expert]; omega))

/-- A choice by two conditions of which one holds. -/
theorem select_ori_decide {α : Type} (p q : Prop) [Decidable p] [Decidable q] (x y : α) :
    Scalar.select (IntOp.ori (BitVec.ofBool (decide p)) (BitVec.ofBool (decide q))) x y = if p ∨ q then x else y := by
  by_cases hp : p <;> by_cases hq : q <;> simp [hp, hq] <;> rfl

/-- A choice by two conditions that hold both. -/
theorem select_andi_decide {α : Type} (p q : Prop) [Decidable p] [Decidable q] (x y : α) :
    Scalar.select (IntOp.andi (BitVec.ofBool (decide p)) (BitVec.ofBool (decide q))) x y = if p ∧ q then x else y := by
  by_cases hp : p <;> by_cases hq : q <;> simp [hp, hq] <;> rfl

/-- The choice of the kernel: where fewer than two experts pass, the two first in rank, else those that pass. -/
theorem pay17_at {a b : FVec Ideal S64x4096 .f32} {c : FVec Ideal S1x4096 .f32} {w : Fin 64 → ℝ} (hw : ∀ k, 0 < w k)
    (ha : ∀ k, a (ix2 k r) = (w k : EReal)) (k : Fin 64) :
    k0_pay17 a b c (ix2 k r) = if c (ix2 0 r) < ((2 : ℝ) : EReal) then (if Top2 w k then 1 else 0) else b (ix2 k r) := by
  obtain ⟨p, hp⟩ := exists_best fun k => (w k : EReal)
  obtain ⟨q, hq⟩ := exists_best fun k => if k = p then ((-(1 : ℝ) : ℝ) : EReal) else (w k : EReal)
  pointwise [k0_pay17]
  simp only [ha, ofBits_bot, ofBits_two, ofBits_neg_one]
  rw [firstMax (fun k => (w k : EReal)) p hp]
  simp only [WordCmp.cmpi_eq_eq, word_inj, WordCmp.select_decide]
  rw [firstMax (fun k => if k = p then ((-(1 : ℝ) : ℝ) : EReal) else (w k : EReal)) q hq]
  simp only [word_inj, top2_of_best hw hp hq]
  refine if_congr Iff.rfl ?_ rfl
  rw [select_ori_decide]

/-- A 0/1 value in the extended reals, as a real. -/
theorem ite_coe (p : Prop) : (if p then (1 : EReal) else 0) = ((if p then 1 else 0 : ℝ) : EReal) := by
  by_cases h : p <;> simp [h]

/-- A sum of 0/1 values is the number of ones. -/
theorem sum_ite (p : Fin 64 → Prop) :
    (∑ k, if p k then (1 : EReal) else 0) = (((Finset.univ.filter p).card : ℝ) : EReal) := by
  simp only [ite_coe, coe_sum, Finset.sum_boole]

variable {g : Fin 8 → ℝ} {e : Fin 64 → ℝ}

/-- The probability of an expert within its group: the number subtracted from every logit cancels. -/
theorem pay13_coe (he : ∀ k, k0_pay2 v0 v1 (ix2 (rowE k) r) = (e k : EReal)) (k : Fin 64) :
    k0_pay13 (k0_pay4 v0 v1) (k0_pay5 v0 v1) (k0_pay7 v0 v1) (k0_pay9 v0 v1) (k0_pay11 v0 v1) (ix2 k r) = (expertProb e k : EReal) := by
  obtain ⟨M, hM⟩ := pay4_at he
  rw [pay13_at]
  simp only [hM, coe_sum]
  rw [div_coe_coe (Finset.sum_pos (fun _ _ => Real.exp_pos _) Finset.univ_nonempty), softmax_shift]
  rfl

/-- The probability of an expert's group, at the expert. -/
theorem pay12_coe (hg : ∀ i, k0_pay2 v0 v1 (ix2 (rowG i) r) = (g i : EReal)) (k : Fin 64) :
    k0_pay12 (k0_pay3 v0 v1) (k0_pay6 v0 v1) (k0_pay8 v0 v1) (k0_pay10 v0 v1) (ix2 k r) = (groupProb g (grp k) : EReal) := by
  rw [pay12_at, pay3_at hg]

/-- Block hypotheses: row `r` of the block `x1` has the group logits `g` and the expert logits `e` against the
    concatenated weights `x0`. -/
structure Logits (x0 : Vec Ideal S72x768 .f32) (x1 : Vec Ideal S4096x768 .f32) (r : Fin 4096) (g : Fin 8 → ℝ) (e : Fin 64 → ℝ) : Prop where
  group : ∀ i, ∑ x, x0 (ix2 (rowG i) x) * x1 (ix2 r x) = (g i : EReal)
  expert : ∀ k, ∑ x, x0 (ix2 (rowE k) x) * x1 (ix2 r x) = (e k : EReal)

variable {x0 : Vec Ideal S72x768 .f32} {x1 : Vec Ideal S4096x768 .f32}

/-- Both offsets of a whole-buffer load are zero. -/
theorem zero_offsets : (![0, 0] : Fin 2 → Nat) = fun _ => 0 := funext fun a => by fin_cases a <;> rfl

/-- The load of the rows reads the whole block. -/
theorem ld_x (x1 : Vec Ideal S4096x768 .f32) : View.ld x1 r0_0 = x1 := View.ld_unit_zero zero_offsets _ x1
/-- The load of the weights reads the whole array. -/
theorem ld_w (x0 : Vec Ideal S72x768 .f32) : View.ld x0 r0_1 = x0 := View.ld_unit_zero zero_offsets _ x0

/-- The product the body forms holds the group logits in its first eight rows. -/
theorem Logits.g2 (h : Logits x0 x1 r g e) (i : Fin 8) : k0_pay2 x1 x0 (ix2 (rowG i) r) = (g i : EReal) :=
  (pay2_at x1 x0 _ r).trans (h.group i)
/-- The product the body forms holds the expert logits in the rows after the first eight. -/
theorem Logits.e2 (h : Logits x0 x1 r g e) (k : Fin 64) : k0_pay2 x1 x0 (ix2 (rowE k) r) = (e k : EReal) :=
  (pay2_at x1 x0 _ r).trans (h.expert k)

/-- The weights of the experts. -/
theorem pay29_at (h : Logits x0 x1 r g e) (k : Fin 64) : k0_pay29 x0 x1 (ix2 k r) = (weight g e k : EReal) := by
  unfold k0_pay29 k0_pay20 k0_pay21 k0_pay22 k0_pay23 k0_pay24 k0_pay25 k0_pay26 k0_pay27 k0_pay28
  rw [ld_x, ld_w]
  pointwise [k0_pay14]
  rw [pay12_coe h.g2, pay13_coe h.e2, ← EReal.coe_mul]
  rfl

/-- The experts that pass, as 0 and 1. -/
theorem pay30_at (h : Logits x0 x1 r g e) (k : Fin 64) : k0_pay30 x0 x1 (ix2 k r) = if Valid g e k then 1 else 0 := by
  unfold k0_pay30 k0_pay20 k0_pay21 k0_pay22 k0_pay23 k0_pay24 k0_pay25 k0_pay26 k0_pay27 k0_pay28
  rw [ld_x, ld_w]
  pointwise [k0_pay15]
  rw [pay12_coe h.g2, pay13_coe h.e2, ofBits_eighth]
  simp only [EReal.coe_le_coe_iff]
  rw [select_andi_decide]
  exact if_congr Iff.rfl rfl rfl

/-- Their number. -/
theorem pay31_at (h : Logits x0 x1 r g e) : k0_pay31 x0 x1 (ix2 0 r) = (((Finset.univ.filter (Valid g e)).card : ℝ) : EReal) := by
  rw [← sum_ite]
  simp only [← pay30_at h]
  unfold k0_pay31 k0_pay30
  pointwise [k0_pay16]

/-- The chosen experts, as 0 and 1. -/
theorem chosen_at (h : Logits x0 x1 r g e) (k : Fin 64) :
    k0_pay17 (k0_pay29 x0 x1) (k0_pay30 x0 x1) (k0_pay31 x0 x1) (ix2 k r) = if Chosen g e k then 1 else 0 := by
  rw [pay17_at (weight_pos g e) (pay29_at h), pay30_at h, pay31_at h]
  have hfew : (((Finset.univ.filter (Valid g e)).card : ℝ) : EReal) < ((2 : ℝ) : EReal) ↔ Few g e := by
    rw [EReal.coe_lt_coe_iff]; unfold Few; exact_mod_cast Iff.rfl
  simp only [hfew]
  unfold Chosen
  by_cases hf : Few g e <;> simp only [hf, if_true, if_false]

/-- THE FIRST STORED ARRAY at row `r`, expert `k`: the mask as a 32-bit word. -/
theorem out2_at (h : Logits x0 x1 r g e) (k : Fin 64) : out0_2 x0 x1 (ix2 r k) = (maskAt g e k).setWidth 32 := by
  unfold out0_2
  rw [View.canon_unit_zero zero_offsets]
  pointwise [k0_pay1, k0_pay19]
  rw [chosen_at h, ofBits_half]
  unfold maskAt
  refine congrArg (fun b => BitVec.setWidth 32 (BitVec.ofBool b)) (decide_eq_decide.2 ?_)
  by_cases hc : Chosen g e k
  · simp only [hc, if_true, iff_true]
    rw [← EReal.coe_one, EReal.coe_lt_coe_iff]; norm_num
  · simp only [hc, if_false, iff_false]
    rw [← EReal.coe_zero, EReal.coe_lt_coe_iff]; norm_num

/-- THE SECOND STORED ARRAY at row `r`, expert `k`: the share. -/
theorem out3_at (h : Logits x0 x1 r g e) (k : Fin 64) : out0_3 x0 x1 (ix2 r k) = shareAt g e k := by
  have hk : ∀ k, k0_pay29 x0 x1 (ix2 k r) * k0_pay17 (k0_pay29 x0 x1) (k0_pay30 x0 x1) (k0_pay31 x0 x1) (ix2 k r) = (kept g e k : EReal) := fun k => by
    rw [pay29_at h, chosen_at h]
    unfold kept
    by_cases hc : Chosen g e k <;> simp [hc]
  unfold out0_3
  rw [View.canon_unit_zero zero_offsets]
  pointwise [k0_pay18]
  simp only [hk, coe_sum]
  rfl

end Cert.Router

end
-- ==== Proof.Logits.lean ====
/-
  The logits of a row as real numbers: the three argument arrays hold finite values, so each is the image of a real array,
  and every product of a row with a weight row is the image of a real sum.
-/
module

public import proofs.«01_k».proof.Proof.Spec
public import proofs.«01_k».proof.Defs
public import Idealize.ShloMosaic.Lib.ReduceAll

@[expose] public section

noncomputable section

open Idealize.ShloMosaic
open scoped BigOperators Classical

namespace Cert.Router

/-- Real arrays in place of the three arguments. -/
structure Args where
  x : Fin 32768 → Fin 768 → ℝ
  wg : Fin 8 → Fin 768 → ℝ
  we : Fin 64 → Fin 768 → ℝ

/-- The group logits of row `n`. -/
def Args.g (A : Args) (n : Fin 32768) (i : Fin 8) : ℝ := ∑ q, A.x n q * A.wg i q

/-- The expert logits of row `n`. -/
def Args.e (A : Args) (n : Fin 32768) (k : Fin 64) : ℝ := ∑ q, A.x n q * A.we k q

/-- The argument arrays hold the real arrays `A`. -/
structure Args.Holds (A : Args) (x : Vec Ideal Cert.KernelIdeal.S32768x768 .f32) (wg : Vec Ideal Cert.KernelIdeal.S8x768 .f32)
    (we : Vec Ideal Cert.KernelIdeal.S64x768 .f32) : Prop where
  hx : ∀ n q, x (ix2 n q) = (A.x n q : EReal)
  hwg : ∀ i q, wg (ix2 i q) = (A.wg i q : EReal)
  hwe : ∀ k q, we (ix2 k q) = (A.we k q : EReal)

/-- THE FIRST RESULT: which experts are chosen, row by row. -/
def maskArr (A : Args) : Cert.KernelIdeal.S32768x64.Idx → BitVec 1 := fun i => maskAt (A.g (i 0)) (A.e (i 0)) (i 1)

/-- THE SECOND RESULT: the shares of the chosen experts, row by row. -/
def shareArr (A : Args) : Cert.KernelIdeal.S32768x64.Idx → EReal := fun i => shareAt (A.g (i 0)) (A.e (i 0)) (i 1)

/-- A sum of products of two finite families is the real sum. -/
theorem sum_mul_coe {n : Nat} {a b : Fin n → EReal} {u v : Fin n → ℝ} (ha : ∀ q, a q = (u q : EReal)) (hb : ∀ q, b q = (v q : EReal)) :
    ∑ q, a q * b q = ((∑ q, u q * v q : ℝ) : EReal) := by
  simp only [ha, hb, ← EReal.coe_mul, coe_sum]

/-- An extended real whose absolute value is below `+∞` is a real number. -/
theorem coe_of_abs_lt (a : EReal) (h : Ideal.cmp .olt (max a (-a)) ⊤ = 1#1) : a = ((a.toReal : ℝ) : EReal) := by
  have h' : max a (-a) < ⊤ := by
    by_contra hc
    rw [Ideal.cmp] at h
    simp [hc] at h
  refine (EReal.coe_toReal (fun e => ?_) (fun e => ?_)).symm
  · rw [e] at h'; simp at h'
  · rw [e] at h'; simp at h'

/-- The pattern `0x7F800000` is +∞. -/
theorem ofBits_inf : Ideal.ofBits .f32 0x7F800000#32 = ⊤ := by
  simp [Ideal.ofBits, Ideal.ieee]

variable [Cert.Pre_finite.Facts]

instance : Subsingleton Cert.Pre_finite.S_.Idx := ⟨fun a b => funext fun i => i.elim0⟩

/-- Three arrays of finite values hold real arrays. -/
theorem holds_of_finite {x : Vec Ideal Cert.KernelIdeal.S32768x768 .f32} {wg : Vec Ideal Cert.KernelIdeal.S8x768 .f32}
    {we : Vec Ideal Cert.KernelIdeal.S64x768 .f32} (h : Cert.Pre_finite.fn (F := Ideal) x wg we = fun _ => 1#1) :
    (Args.mk (fun n q => (x (ix2 n q)).toReal) (fun i q => (wg (ix2 i q)).toReal) (fun k q => (we (ix2 k q)).toReal)).Holds x wg we := by
  have h0 := congrFun h (fun i => i.elim0)
  unfold Cert.Pre_finite.fn at h0
  dsimp only at h0
  obtain ⟨h1, h2⟩ := IntOp.andi_eq_one.1 h0
  obtain ⟨h3, h4⟩ := IntOp.andi_eq_one.1 h1
  have hi := ofBits_inf
  refine ⟨fun n q => coe_of_abs_lt _ ?_, fun i q => coe_of_abs_lt _ ?_, fun k q => coe_of_abs_lt _ ?_⟩
  · have := Host.reduce_andi_all _ _ _ _ _ h3 (ix2 n q)
    rw [← hi]; exact this
  · have := Host.reduce_andi_all _ _ _ _ _ h4 (ix2 i q)
    rw [← hi]; exact this
  · have := Host.reduce_andi_all _ _ _ _ _ h2 (ix2 k q)
    rw [← hi]; exact this

end Cert.Router

end
-- ==== Proof.KernelRun.lean ====
/-
  What the two result arrays of the kernel hold after the run: block `t` of each covers rows `4096 t` to `4096 t + 4095`, and
  every row of a block holds the mask and the share of its own logits.
-/
module

public import proofs.«01_k».proof.Proof.KernelRow
public import proofs.«01_k».proof.Proof.Logits
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)
open scoped BigOperators Classical

namespace Cert.Router

open Cert.KernelIdeal Cert.KernelIdeal.Gen

variable (m : (ℓ : Loc nD τ sig) → Buf (Elt Ideal) ℓ) (ρ : Dev nD → PrngReg)

/-- The weights the grid reads: the group rows above the expert rows. -/
theorem V_weights (c : Dev nD) : V m c main_call0_v0
    = concatenate S72x768 0 [⟨S8x768, m ((c : Thread nD τ).loc main_arg1)⟩, ⟨S64x768, m ((c : Thread nD τ).loc main_arg2)⟩] concatenates_S8x768_S64x768_S72x768_d0 := by
  unfold V V0
  simp only [hostOps0, StableHlo.TRef.binary, StableHlo.TRef.unary, StableHlo.TRef.toBuf, StableHlo.TRef.ofBuf, cast_eq, List.flatten_cons, List.flatten_nil, List.append_nil]
  after_results_simp

/-- The first eight rows of the weights the grid reads are the group weights. -/
theorem weights_g (c : Dev nD) (i : Fin 8) (q : Fin 768) :
    V m c main_call0_v0 (ix2 (rowG i) q) = m ((c : Thread nD τ).loc main_arg1) (ix2 i q) := by
  rw [V_weights]
  pointwise
  rw [dif_pos (show (rowG i).val < 8 from i.isLt)]
  rfl

/-- The rows after the first eight are the expert weights. -/
theorem weights_e (c : Dev nD) (k : Fin 64) (q : Fin 768) :
    V m c main_call0_v0 (ix2 (rowE k) q) = m ((c : Thread nD τ).loc main_arg2) (ix2 k q) := by
  rw [V_weights]
  pointwise
  rw [dif_neg (show ¬ (rowE k).val < 8 by simp [rowE])]
  exact congrArg (fun j => m ((c : Thread nD τ).loc main_arg2) (ix2 j q)) (Fin.ext (by simp [rowE]))

/-- Row `r` of block `t`. -/
def row (t : Fin cfg0.N) (r : Fin 4096) : Fin 32768 := ⟨t.val * 4096 + r.val, by
  have h : t.val < 8 := lt_of_lt_of_eq t.isLt N_0
  have := r.isLt
  omega⟩

/-- At point `t` the weights window is at the origin and the other three windows are at block `t` of rows. -/
theorem index_facts (t : Fin cfg0.N) :
    (win0_0.index t 0 = 0 ∧ win0_0.index t 1 = 0) ∧ (win0_1.index t 0 = t.val ∧ win0_1.index t 1 = 0)
      ∧ (win0_2.index t 0 = t.val ∧ win0_2.index t 1 = 0) ∧ (win0_3.index t 0 = t.val ∧ win0_3.index t 1 = 0) := by
  rcases fin_N0 t with rfl | rfl | rfl | rfl | rfl | rfl | rfl | rfl <;> decide +kernel

/-- The block of `x` at point `t`. -/
theorem iblk_x (c : Dev nD) (t : Fin cfg0.N) (r : Fin 4096) (q : Fin 768) :
    iblk m c 1 t (ix2 r q) = m ((c : Thread nD τ).loc main_arg0) (ix2 (row t r) q) := by
  rw [← V_main_arg0 m c]
  refine congrArg (V m c main_arg0) (funext fun a => Fin.ext ?_)
  have h := (index_facts t).2.1
  match a with
  | ⟨0, _⟩ =>
    show win0_1.index t 0 * 4096 + 1 * r.val = t.val * 4096 + r.val
    rw [h.1]; omega
  | ⟨1, _⟩ =>
    show win0_1.index t 1 * 768 + 1 * q.val = q.val
    rw [h.2]; omega

/-- The block of the weights is the whole array. -/
theorem iblk_w (c : Dev nD) (t : Fin cfg0.N) (r : Fin 72) (q : Fin 768) :
    iblk m c 0 t (ix2 r q) = V m c main_call0_v0 (ix2 r q) := by
  refine congrArg (V m c main_call0_v0) (funext fun a => Fin.ext ?_)
  have h := (index_facts t).1
  match a with
  | ⟨0, _⟩ =>
    show win0_0.index t 0 * 72 + 1 * r.val = r.val
    rw [h.1]; omega
  | ⟨1, _⟩ =>
    show win0_0.index t 1 * 768 + 1 * q.val = q.val
    rw [h.2]; omega

variable {m} {A : Dev nD → Args}

/-- The launch's arguments hold the real arrays `A`. -/
abbrev HoldsAt (m : (ℓ : Loc nD τ sig) → Buf (Elt Ideal) ℓ) (A : Dev nD → Args) : Prop :=
  ∀ c : Dev nD, (A c).Holds (m ((c : Thread nD τ).loc main_arg0)) (m ((c : Thread nD τ).loc main_arg1)) (m ((c : Thread nD τ).loc main_arg2))

/-- The logits of row `r` of block `t`. -/
theorem logits (hA : HoldsAt m A) (c : Dev nD) (t : Fin cfg0.N) (r : Fin 4096) :
    Logits (iblk m c 0 t) (iblk m c 1 t) r ((A c).g (row t r)) ((A c).e (row t r)) where
  group i := by
    rw [sum_mul_coe (fun q => ((iblk_w m c t _ q).trans (weights_g m c i q)).trans ((hA c).hwg i q))
      (fun q => (iblk_x m c t r q).trans ((hA c).hx _ q))]
    exact congrArg Real.toEReal (Finset.sum_congr rfl fun q _ => mul_comm _ _)
  expert k := by
    rw [sum_mul_coe (fun q => ((iblk_w m c t _ q).trans (weights_e m c k q)).trans ((hA c).hwe k q))
      (fun q => (iblk_x m c t r q).trans ((hA c).hx _ q))]
    exact congrArg Real.toEReal (Finset.sum_congr rfl fun q _ => mul_comm _ _)

/-- The mask array as the grid leaves it, one 32-bit word per expert. -/
def maskWords (A : Args) : S32768x64.Idx → BitVec 32 := fun i => (maskArr A i).setWidth 32

/-- Row `r` of block `t` of the mask window is row `row t r` of the array. -/
theorem emb_out2 (t : Fin cfg0.N) (r : Fin 4096) (k : Fin 64) : (win0_2.rect t).emb (ix2 r k) = ix2 (row t r) k := by
  have h := (index_facts t).2.2.1
  refine funext fun a => Fin.ext ?_
  rw [Rect.emb_apply]
  match a with
  | ⟨0, _⟩ =>
    show win0_2.index t 0 * 4096 + 1 * r.val = t.val * 4096 + r.val
    rw [h.1]; omega
  | ⟨1, _⟩ =>
    show win0_2.index t 1 * 64 + 1 * k.val = k.val
    rw [h.2]; omega

/-- Row `r` of block `t` of the share window is row `row t r` of the array. -/
theorem emb_out3 (t : Fin cfg0.N) (r : Fin 4096) (k : Fin 64) : (win0_3.rect t).emb (ix2 r k) = ix2 (row t r) k := by
  have h := (index_facts t).2.2.2
  refine funext fun a => Fin.ext ?_
  rw [Rect.emb_apply]
  match a with
  | ⟨0, _⟩ =>
    show win0_3.index t 0 * 4096 + 1 * r.val = t.val * 4096 + r.val
    rw [h.1]; omega
  | ⟨1, _⟩ =>
    show win0_3.index t 1 * 64 + 1 * k.val = k.val
    rw [h.2]; omega

/-- The block of the mask written out at point `t` is that block of the mask words. -/
theorem flushed2 (hA : HoldsAt m A) (c : Dev nD) (t : Fin cfg0.N) :
    (dats m 0 c).flushed 2 t = (win0_2.blk t).view.read (Elt Ideal) (maskWords (A c)) := by
  show (cfg0.win 2).cut (grid0.coords t) ((dats m 0 c).after 2 t) = _
  rw [after0_2]
  funext j
  obtain ⟨r, k, rfl⟩ : ∃ (r : Fin 4096) (k : Fin 64), j = ix2 r k := ⟨j 0, j 1, funext fun a => by match a with | ⟨0, _⟩ => rfl | ⟨1, _⟩ => rfl⟩
  show out0_2 (F := Ideal) _ _ (ix2 r k) = maskWords (A c) ((win0_2.rect t).emb (ix2 r k))
  rw [emb_out2, out2_at (logits hA c t r)]
  rfl

/-- The block of the shares written out at point `t` is that block of the share array. -/
theorem flushed3 (hA : HoldsAt m A) (c : Dev nD) (t : Fin cfg0.N) :
    (dats m 0 c).flushed 3 t = (win0_3.blk t).view.read (Elt Ideal) (shareArr (A c)) := by
  show (cfg0.win 3).cut (grid0.coords t) ((dats m 0 c).after 3 t) = _
  rw [after0_3]
  funext j
  obtain ⟨r, k, rfl⟩ : ∃ (r : Fin 4096) (k : Fin 64), j = ix2 r k := ⟨j 0, j 1, funext fun a => by match a with | ⟨0, _⟩ => rfl | ⟨1, _⟩ => rfl⟩
  show out0_3 (F := Ideal) _ _ (ix2 r k) = shareArr (A c) ((win0_3.rect t).emb (ix2 r k))
  rw [emb_out3, out3_at (logits hA c t r)]
  rfl

/-- Every index lies in the block of its row's point. -/
theorem exists_row (i : S32768x64.Idx) : ∃ (t : Fin cfg0.N) (r : Fin 4096) (k : Fin 64), i = ix2 (row t r) k := by
  have h0 : (i 0 : Nat) < 32768 := (i 0).isLt
  have hN : cfg0.N = 8 := N_0
  refine ⟨⟨(i 0 : Nat) / 4096, by omega⟩, ⟨(i 0 : Nat) % 4096, Nat.mod_lt _ (by norm_num)⟩, i 1, funext fun a => Fin.ext ?_⟩
  match a with
  | ⟨0, _⟩ => show (i 0 : Nat) = (i 0 : Nat) / 4096 * 4096 + (i 0 : Nat) % 4096; omega
  | ⟨1, _⟩ => rfl

/-- Every index of the mask array is in a block that is written out. -/
theorem cover2 (i : S32768x64.Idx) : ∃ t : Fin cfg0.N, (cfg0.win 2).flush t = true ∧ i ∈ ((cfg0.win 2).blk t).view.set := by
  obtain ⟨t, r, k, rfl⟩ := exists_row i
  refine ⟨t, flush0_2 t, ?_⟩
  show _ ∈ ((View.whole main_call0_v1_0).slice (win0_2.rect t)).set
  rw [View.set_slice_whole, ← emb_out2]
  exact (LoadRect.mem_set _).2 fun a => ⟨(ix2 r k a).val, (ix2 r k a).isLt, rfl⟩

/-- Every index of the share array is in a block that is written out. -/
theorem cover3 (i : S32768x64.Idx) : ∃ t : Fin cfg0.N, (cfg0.win 3).flush t = true ∧ i ∈ ((cfg0.win 3).blk t).view.set := by
  obtain ⟨t, r, k, rfl⟩ := exists_row i
  refine ⟨t, flush0_3 t, ?_⟩
  show _ ∈ ((View.whole main_v0_1).slice (win0_3.rect t)).set
  rw [View.set_slice_whole, ← emb_out3]
  exact (LoadRect.mem_set _).2 fun a => ⟨(ix2 r k a).val, (ix2 r k a).isLt, rfl⟩

/-- After the grid the mask array holds the mask words. -/
theorem final2 (hA : HoldsAt m A) (c : Dev nD) : (dats m 0 c).arrAt 2 cfg0.N = maskWords (A c) :=
  (dats m 0 c).arrAt_eq_of_cover 2 (maskWords (A c)) (fun t _ => flushed2 hA c t) cover2

/-- After the grid the share array holds the shares. -/
theorem final3 (hA : HoldsAt m A) (c : Dev nD) : (dats m 0 c).arrAt 3 cfg0.N = shareArr (A c) :=
  (dats m 0 c).arrAt_eq_of_cover 3 (shareArr (A c)) (fun t _ => flushed3 hA c t) cover3

/-- A bit widened to a word differs from zero exactly when it is set. -/
theorem ne_zero_bit (b : BitVec 1) : IntOp.cmpi .ne (b.setWidth 32) 0#32 = b := by
  revert b; decide

/-- Different windows have different arrays. -/
theorem arrays_injective : Function.Injective (Pipeline.arrRef spec0) := by decide

/-- The lines after the grid compare every word of the mask array with zero. -/
theorem tail_mask (hA : HoldsAt m A) (c : Dev nD) :
    Pipeline.afterTail₀ cfgs (dats m) 0 (V0 m) [hostOps1] c main_v0_0 = maskArr (A c) := by
  unfold Pipeline.afterTail₀
  simp only [hostOps1, StableHlo.TRef.binary, StableHlo.TRef.unary, StableHlo.TRef.nullary, StableHlo.TRef.toBuf, StableHlo.TRef.ofBuf, cast_eq, List.flatten_cons, List.flatten_nil, List.append_nil]
  after_results_simp
  have h2 : Pipeline.withArrays (cfgs 0).spec c (V0 m c) (fun w => (dats m 0 c).arrAt w (cfgs 0).N) (Proc.devRef .tc main_call0_v1_0)
      = maskWords (A c) :=
    (Pipeline.withArrays_arr spec0 arrays_injective c (V0 m c) (fun w => (dats m 0 c).arrAt w (cfgs 0).N) 2).trans (final2 hA c)
  rw [h2]
  funext i
  exact ne_zero_bit _

/-- THE RUN, read: the mask array, the share array, the arguments unchanged. -/
theorem run_kernel (hA : HoldsAt m A) : θ_run defs (onTc (τ := τ) (main (F := Ideal))) ⟨m, fun _ => 0, ρ⟩ fun r => ∀ c : Dev nD,
      r.2.mem ((c : Thread nD τ).loc main_v0_0) = maskArr (A c)
      ∧ r.2.mem ((c : Thread nD τ).loc main_v0_1) = shareArr (A c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).2 main_v0_0 (Pipeline.mem_restRefs_of main_v0_0 (by decide) (by decide))).trans (tail_mask hA c),
      ((h c).1 3).trans (final3 hA c),
      ((h c).1 1).trans (((dats m 0 c).arrAt_in 1 rfl _).trans ((A_eq m c 1).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main m ρ)

end Cert.Router

end
-- ==== Proof.RefStages.lean ====
/-
  The reference cut into stages: each stage is a few host operations of the arguments, and the two results of the run are
  the last two stages.
-/
module

public import proofs.«01_k».proof.Proof.Gen.ReferenceIdeal.Run
public import proofs.«01_k».proof.Proof.Logits

@[expose] public section

set_option maxRecDepth 16384

noncomputable section

open Idealize.ShloMosaic Idealize.ShloMosaic.TcCoe Idealize.SL.Sem

namespace Cert.Router.Ref

open Cert.ReferenceIdeal Cert.ReferenceIdeal.Gen

variable (x : FVec Ideal S32768x768 .f32) (wg : FVec Ideal S8x768 .f32) (we : FVec Ideal S64x768 .f32)

/-- The group logits. -/
def glog : FVec Ideal S32768x8 .f32 :=
  Host.dotGeneral dot_S32768x768_S768x8_S32768x8_1_0_0_1_n_n none x (transpose S768x8 [1, 0] wg transposes_S8x768_S768x8_1_0)

/-- The row maximum of the group logits. -/
def gmax : FVec Ideal S32768 .f32 :=
  maximumf (broadcastInDim S32768 ![] bcast_S_S32768 (constant S_ .f32 0xFF800000#32))
    (Host.reduce FloatOps.maximumf (glog x wg) (constant S_ .f32 0xFF800000#32) reducesTo_S32768x8_S32768_d1 h_S_)

/-- The exponentials of the shifted group logits. -/
def gexp : FVec Ideal S32768x8 .f32 :=
  Host.exp (subf (glog x wg) (broadcastInDim S32768x8 ![0, 1] bcast_S32768x1_S32768x8_0_1 (broadcastInDim S32768x1 ![0] bcast_S32768_S32768x1_0 (gmax x wg))))

/-- The group probabilities. -/
def gprob : FVec Ideal S32768x8 .f32 :=
  Host.divf (gexp x wg) (broadcastInDim S32768x8 ![0, 1] bcast_S32768x1_S32768x8_0_1 (broadcastInDim S32768x1 ![0] bcast_S32768_S32768x1_0
    (Host.reduceAdd (gexp x wg) (constant S_ .f32 0x00000000#32) reducesTo_S32768x8_S32768_d1 h_S_)))

/-- The expert logits, by group. -/
def elog : FVec Ideal S32768x8x8 .f32 :=
  shapeCast _ (Host.dotGeneral dot_S32768x768_S768x64_S32768x64_1_0_0_1_n_n none x (transpose S768x64 [1, 0] we transposes_S64x768_S768x64_1_0)) shapeCasts_S32768x64_S32768x8x8

/-- The maximum of the expert logits of each group. -/
def emax : FVec Ideal S32768x8 .f32 :=
  maximumf (broadcastInDim S32768x8 ![] bcast_S_S32768x8 (constant S_ .f32 0xFF800000#32))
    (Host.reduce FloatOps.maximumf (elog x we) (constant S_ .f32 0xFF800000#32) reducesTo_S32768x8x8_S32768x8_d2 h_S_)

/-- The exponentials of the shifted expert logits. -/
def eexp : FVec Ideal S32768x8x8 .f32 :=
  Host.exp (subf (elog x we) (broadcastInDim S32768x8x8 ![0, 1, 2] bcast_S32768x8x1_S32768x8x8_0_1_2 (broadcastInDim S32768x8x1 ![0, 1] bcast_S32768x8_S32768x8x1_0_1 (emax x we))))

/-- The expert probabilities within each group. -/
def eprob : FVec Ideal S32768x8x8 .f32 :=
  Host.divf (eexp x we) (broadcastInDim S32768x8x8 ![0, 1, 2] bcast_S32768x8x1_S32768x8x8_0_1_2 (broadcastInDim S32768x8x1 ![0, 1] bcast_S32768x8_S32768x8x1_0_1
    (Host.reduceAdd (eexp x we) (constant S_ .f32 0x00000000#32) reducesTo_S32768x8x8_S32768x8_d2 h_S_)))

/-- The experts that pass both thresholds. -/
def valid : IVec S32768x64 1 :=
  shapeCast _ (andi (broadcastInDim S32768x8x8 ![0, 1, 2] bcast_S32768x8x1_S32768x8x8_0_1_2 (broadcastInDim S32768x8x1 ![0, 1] bcast_S32768x8_S32768x8x1_0_1
      (cmpf .oge (gprob x wg) (broadcastInDim S32768x8 ![] bcast_S_S32768x8 (constant S_ .f32 0x3E000000#32)))))
    (cmpf .oge (eprob x we) (broadcastInDim S32768x8x8 ![] bcast_S_S32768x8x8 (constant S_ .f32 0x3E000000#32)))) shapeCasts_S32768x8x8_S32768x64

/-- The weights of the experts. -/
def wts : FVec Ideal S32768x64 .f32 :=
  shapeCast _ (mulf (broadcastInDim S32768x8x8 ![0, 1, 2] bcast_S32768x8x1_S32768x8x8_0_1_2 (broadcastInDim S32768x8x1 ![0, 1] bcast_S32768x8_S32768x8x1_0_1 (gprob x wg)))
    (eprob x we)) shapeCasts_S32768x8x8_S32768x64

/-- How many experts of a row are in a mask. -/
def count (v : IVec S32768x64 1) : IVec S32768 32 :=
  Host.reduce IntOp.addi (extui 32 v natLt_1_32) (constantI S_ 32 0#32) reducesTo_S32768x64_S32768_d1 h_S_

/-- The row number of every row. -/
def rowIds : IVec S32768x1 32 := broadcastInDim S32768x1 ![0] bcast_S32768_S32768x1_0 (iotaInDim S32768 32 0)

/-- The two greatest entries of every row. -/
def inds (w : FVec Ideal S32768x64 .f32) : IVec S32768x2 32 :=
  (Host.topK S32768x2 1 (FloatOps.cmpfTotal .gt) w sliceFits_S32768x64_S32768x2).2

/-- The row numbers, a negative one counted from the end. -/
def rowIds' : IVec S32768x1 32 :=
  select (cmpi .slt rowIds (broadcastInDim S32768x1 ![] bcast_S_S32768x1 (constantI S_ 32 0#32)))
    (addi rowIds (broadcastInDim S32768x1 ![] bcast_S_S32768x1 (constantI S_ 32 32768#32))) rowIds

/-- Column numbers, a negative one counted from the end. -/
def wrapCols (i : IVec S32768x2 32) : IVec S32768x2 32 :=
  select (cmpi .slt i (broadcastInDim S32768x2 ![] bcast_S_S32768x2 (constantI S_ 32 0#32)))
    (addi i (broadcastInDim S32768x2 ![] bcast_S_S32768x2 (constantI S_ 32 64#32))) i

/-- Pairs of a row and a column. -/
def pairs (i : IVec S32768x2 32) : IVec S32768x2x2 32 :=
  concatenate S32768x2x2 2 [⟨S32768x2x1, broadcastInDim S32768x2x1 ![0, 1] bcast_S32768x2_S32768x2x1_0_1 (broadcastInDim S32768x2 ![0, 1] bcast_S32768x1_S32768x2_0_1 rowIds')⟩,
    ⟨S32768x2x1, broadcastInDim S32768x2x1 ![0, 1] bcast_S32768x2_S32768x2x1_0_1 (wrapCols i)⟩] concatenates_S32768x2x1_S32768x2x1_S32768x2x2_d2

/-- The mask that is set at the two columns of every row. -/
def marked (i : IVec S32768x2 32) : IVec S32768x64 1 :=
  Host.scatter scatter_S32768x64_S32768x2x2_S32768x2_n_01_01_2 (fun _ b => b) (broadcastInDim S32768x64 ![] bcast_S_S32768x64 (constantI S_ 1 0#1))
    (pairs i) (broadcastInDim S32768x2 ![] bcast_S_S32768x2 (constantI S_ 1 1#1))

/-- The mask chosen from the valid mask `v` and the weights `w`. -/
def choose (v : IVec S32768x64 1) (w : FVec Ideal S32768x64 .f32) : IVec S32768x64 1 :=
  select (broadcastInDim S32768x64 ![0, 1] bcast_S32768x1_S32768x64_0_1 (broadcastInDim S32768x1 ![0] bcast_S32768_S32768x1_0
    (cmpi .slt (count v) (broadcastInDim S32768 ![] bcast_S_S32768 (constantI S_ 32 2#32))))) (marked (inds w)) v

/-- The chosen weights. -/
def part (w : FVec Ideal S32768x64 .f32) (k : IVec S32768x64 1) : FVec Ideal S32768x64 .f32 := mulf w (uitofp .f32 k)

/-- The chosen weights over their sum. -/
def share (p : FVec Ideal S32768x64 .f32) : FVec Ideal S32768x64 .f32 :=
  Host.divf p (broadcastInDim S32768x64 ![0, 1] bcast_S32768x1_S32768x64_0_1
    (maximumf (broadcastInDim S32768x1 ![] bcast_S_S32768x1 (constant S_ .f32 0x3089705F#32))
      (broadcastInDim S32768x1 ![0] bcast_S32768_S32768x1_0 (Host.reduceAdd p (constant S_ .f32 0x00000000#32) reducesTo_S32768x64_S32768_d1 h_S_))))

variable (m : (ℓ : Loc nD τ sig) → Buf (Elt Ideal) ℓ) (c : Dev nD)

/-- The first result is the chosen mask. -/
theorem res_mask : Value.res_out0 m c = choose (valid (m ((c.tc : Thread nD τ).loc main_arg0)) (m ((c.tc : Thread nD τ).loc main_arg1)) (m ((c.tc : Thread nD τ).loc main_arg2)))
    (wts (m ((c.tc : Thread nD τ).loc main_arg0)) (m ((c.tc : Thread nD τ).loc main_arg1)) (m ((c.tc : Thread nD τ).loc main_arg2))) := rfl

/-- The second result is the share of the chosen weights. -/
theorem res_share : Value.res_out1 m c = share (part (wts (m ((c.tc : Thread nD τ).loc main_arg0)) (m ((c.tc : Thread nD τ).loc main_arg1)) (m ((c.tc : Thread nD τ).loc main_arg2)))
    (choose (valid (m ((c.tc : Thread nD τ).loc main_arg0)) (m ((c.tc : Thread nD τ).loc main_arg1)) (m ((c.tc : Thread nD τ).loc main_arg2)))
    (wts (m ((c.tc : Thread nD τ).loc main_arg0)) (m ((c.tc : Thread nD τ).loc main_arg1)) (m ((c.tc : Thread nD τ).loc main_arg2))))) := rfl

end Cert.Router.Ref

end
-- ==== Proof.RefProbs.lean ====
/-
  The probabilities, the valid mask and the weights of the reference, read at one row and one expert.
-/
module

public import proofs.«01_k».proof.Proof.RefStages

@[expose] public section

set_option maxRecDepth 16384

noncomputable section

open Idealize.ShloMosaic
open scoped BigOperators Classical

namespace Cert.Router.Ref

open Cert.ReferenceIdeal Cert.ReferenceIdeal.Gen

variable {x : FVec Ideal S32768x768 .f32} {wg : FVec Ideal S8x768 .f32} {we : FVec Ideal S64x768 .f32} {A : Args}

/-- The conjunction of two truth values. -/
theorem andi_decide (p q : Prop) [Decidable p] [Decidable q] : IntOp.andi (BitVec.ofBool (decide p)) (BitVec.ofBool (decide q)) = BitVec.ofBool (decide (p ∧ q)) := by
  by_cases hp : p <;> by_cases hq : q <;> simp [hp, hq] <;> rfl

/-- The group logits of a row. -/
theorem glog_at (h : A.Holds x wg we) (n : Fin 32768) (i : Fin 8) : glog x wg (ix2 n i) = (A.g n i : EReal) := by
  have e : glog x wg (ix2 n i) = ∑ q, x (ix2 n q) * wg (ix2 i q) := by
    pointwise [glog]
  rw [e, sum_mul_coe (fun q => h.hx n q) (fun q => h.hwg i q)]
  rfl

/-- The maximum of a row's group logits is a real number. -/
theorem gmax_at (h : A.Holds x wg we) (n : Fin 32768) : ∃ M : ℝ, gmax x wg (ix1 n) = (M : EReal) := by
  pointwise [gmax]
  simp only [glog_at h, ofBits_bot]
  obtain ⟨M, hM⟩ := fold_max_coe (A.g n)
  exact ⟨M, by rw [hM, max_eq_right bot_le]⟩

/-- The group exponentials of a row, shifted by one number. -/
theorem gexp_at (h : A.Holds x wg we) (n : Fin 32768) : ∃ M : ℝ, ∀ i, gexp x wg (ix2 n i) = (Real.exp (A.g n i - M) : EReal) := by
  obtain ⟨M, hM⟩ := gmax_at h n
  refine ⟨M, fun i => ?_⟩
  pointwise [gexp]
  rw [glog_at h]
  rw [hM, exp_sub_coe]

/-- The group probabilities of a row. -/
theorem gprob_at (h : A.Holds x wg we) (n : Fin 32768) (i : Fin 8) : gprob x wg (ix2 n i) = (groupProb (A.g n) i : EReal) := by
  obtain ⟨M, hM⟩ := gexp_at h n
  pointwise [gprob]
  simp only [hM, coe_sum]
  rw [div_coe_coe (Finset.sum_pos (fun _ _ => Real.exp_pos _) Finset.univ_nonempty), softmax_shift]
  rfl

/-- The expert logits of a row. -/
theorem elog_at (h : A.Holds x wg we) (n : Fin 32768) (i j : Fin 8) : elog x we (ix3 n i j) = (A.e n (expert i j) : EReal) := by
  pointwise [elog]
  have e : (⟨i.val * 8 + j.val, by have := i.isLt; have := j.isLt; omega⟩ : Fin 64) = expert i j := Fin.ext (by show i.val * 8 + j.val = 8 * i.val + j.val; omega)
  exact (Finset.sum_congr rfl fun q _ => congrArg (fun k => x (ix2 n q) * we (ix2 k q)) e).trans
    (sum_mul_coe (fun q => h.hx n q) (fun q => h.hwe (expert i j) q))

/-- The maximum of a group's expert logits is a real number. -/
theorem emax_at (h : A.Holds x wg we) (n : Fin 32768) (i : Fin 8) : ∃ M : ℝ, emax x we (ix2 n i) = (M : EReal) := by
  pointwise [emax]
  simp only [elog_at h, ofBits_bot]
  obtain ⟨M, hM⟩ := fold_max_coe (fun j => A.e n (expert i j))
  exact ⟨M, by rw [hM, max_eq_right bot_le]⟩

/-- The expert exponentials of a group, shifted by one number. -/
theorem eexp_at (h : A.Holds x wg we) (n : Fin 32768) (i : Fin 8) : ∃ M : ℝ, ∀ j, eexp x we (ix3 n i j) = (Real.exp (A.e n (expert i j) - M) : EReal) := by
  obtain ⟨M, hM⟩ := emax_at h n i
  refine ⟨M, fun j => ?_⟩
  pointwise [eexp]
  rw [elog_at h]
  rw [hM, exp_sub_coe]

/-- The expert probabilities of a group. -/
theorem eprob_at (h : A.Holds x wg we) (n : Fin 32768) (i j : Fin 8) : eprob x we (ix3 n i j) = (expertProb (A.e n) (expert i j) : EReal) := by
  obtain ⟨M, hM⟩ := eexp_at h n i
  pointwise [eprob]
  simp only [hM, coe_sum]
  rw [div_coe_coe (Finset.sum_pos (fun _ _ => Real.exp_pos _) Finset.univ_nonempty), softmax_shift _ (fun j => A.e n (expert i j))]
  unfold expertProb
  rw [grp_expert]

/-- The weights of a row's experts. -/
theorem wts_at (h : A.Holds x wg we) (n : Fin 32768) (k : Fin 64) : wts x wg we (ix2 n k) = (weight (A.g n) (A.e n) k : EReal) := by
  pointwise [wts]
  refine (congrArg₂ (· * ·) (gprob_at h n (grp k)) ((eprob_at h n (grp k) ⟨k.val % 8, Nat.mod_lt _ (by norm_num)⟩).trans (by rw [expert_grp]))).trans ?_
  rw [← EReal.coe_mul]
  rfl

/-- The experts of a row that pass both thresholds. -/
theorem valid_at (h : A.Holds x wg we) (n : Fin 32768) (k : Fin 64) : valid x wg we (ix2 n k) = BitVec.ofBool (decide (Valid (A.g n) (A.e n) k)) := by
  pointwise [valid]
  have h1 := gprob_at h n (grp k)
  have h2 := (eprob_at h n (grp k) ⟨k.val % 8, Nat.mod_lt _ (by norm_num)⟩).trans (by rw [expert_grp])
  unfold grp at h1 h2
  rw [h1, h2, ofBits_eighth]
  simp only [EReal.coe_le_coe_iff]
  refine (andi_decide (1 / 8 ≤ groupProb (A.g n) (grp k)) (1 / 8 ≤ expertProb (A.e n) k)).trans ?_
  exact congrArg BitVec.ofBool (decide_eq_decide.2 Iff.rfl)

end Cert.Router.Ref

end
-- ==== Proof.TopTwo.lean ====
/-
  The two greatest entries of a row as the reference takes them: the row is sorted by descending entry, equal entries in
  the order of their columns, and the first two columns are kept.
-/
module

public import proofs.«01_k».proof.Proof.RefStages
public import Idealize.ShloMosaic.Lib.PlanTiles.StableSort

@[expose] public section

set_option maxRecDepth 16384

noncomputable section

open Idealize.ShloMosaic
open scoped BigOperators Classical

namespace Cert.Router.Ref

open Cert.ReferenceIdeal Cert.ReferenceIdeal.Gen

/-- How many entries are below an entry. -/
def below (w : Fin 64 → ℝ) (a : Fin 64) : ℕ := (Finset.univ.filter fun j => w j < w a).card

/-- Counting the entries below orders entries as the entries themselves do. -/
theorem below_lt (w : Fin 64 → ℝ) (a b : Fin 64) : below w b < below w a ↔ w b < w a := by
  refine ⟨fun h => ?_, fun h => ?_⟩
  · by_contra hc
    refine absurd h (not_lt.2 (Finset.card_le_card fun j hj => ?_))
    simp only [Finset.mem_filter, Finset.mem_univ, true_and] at hj ⊢
    exact hj.trans_le (not_lt.1 hc)
  · refine Finset.card_lt_card ((Finset.ssubset_iff_of_subset fun j hj => ?_).2 ⟨b, ?_, ?_⟩)
    · simp only [Finset.mem_filter, Finset.mem_univ, true_and] at hj ⊢
      exact hj.trans h
    · simpa using h
    · simp

/-- Entries with equally many entries below them are equal. -/
theorem below_eq (w : Fin 64 → ℝ) (a b : Fin 64) (h : below w a = below w b) : w a = w b :=
  le_antisymm (not_lt.1 fun hc => absurd ((below_lt w a b).2 hc) (by omega)) (not_lt.1 fun hc => absurd ((below_lt w b a).2 hc) (by omega))

/-- A stable sort by descending `G` puts the greater first, and equal ones in their order. -/
theorem sortedFrom_lex {n : ℕ} (G : Fin n → ℕ) {p q : Fin n} (h : p < q) :
    PlanTiles.Lex G (· < ·) (sortedFrom (fun a b => decide (G b < G a)) p) (sortedFrom (fun a b => decide (G b < G a)) q) := by
  have hs := PlanTiles.pairwise_stableSort_lex G (· < ·) (List.finRange n) (List.pairwise_lt_finRange n)
  rw [List.pairwise_iff_get] at hs
  exact hs (p.cast (length_sortPositions n _).symm) (q.cast (length_sortPositions n _).symm) h

/-- The columns in descending order of their entries. -/
@[irreducible] def descending (w : Fin 64 → ℝ) : Fin 64 → Fin 64 := sortedFrom fun a b => decide (w b < w a)

/-- The columns in descending order are the stable sort by greater entry. -/
theorem descending_def (w : Fin 64 → ℝ) : descending w = sortedFrom fun a b => decide (w b < w a) := by
  unfold descending; rfl

/-- Every column is somewhere in the sorted row. -/
theorem descending_surjective (w : Fin 64 → ℝ) : Function.Surjective (descending w) := by
  rw [descending_def]; exact sortedFrom_surjective _

/-- The same sort by the number of entries below. -/
theorem descending_below (w : Fin 64 → ℝ) : descending w = sortedFrom fun a b => decide (below w b < below w a) := by
  rw [descending_def]
  exact congrArg sortedFrom (funext fun a => funext fun b => decide_eq_decide.2 (below_lt w a b).symm)

/-- An earlier column of the sorted row beats a later one. -/
theorem descending_beats (w : Fin 64 → ℝ) {p q : Fin 64} (h : p < q) : Beats w (descending w p) (descending w q) := by
  have hpq := sortedFrom_lex (below w) h
  rw [← descending_below] at hpq
  exact hpq.imp (below_lt w _ _).1 fun h => ⟨below_eq w _ _ h.1, h.2⟩

/-- Column `b` of the two kept, as a column of the sorted row. -/
def kept2 (b : Fin 2) : Fin 64 := ⟨b.val, by have := b.isLt; omega⟩

/-- The two experts of greatest weight are the first two sorted columns. -/
theorem top2_descending (w : Fin 64 → ℝ) (k : Fin 64) : Top2 w k ↔ ∃ b : Fin 2, descending w (kept2 b) = k := by
  rw [top2_iff (descending_beats w (show kept2 0 < kept2 1 by decide))]
  · constructor
    · rintro (rfl | rfl)
      · exact ⟨0, rfl⟩
      · exact ⟨1, rfl⟩
    · rintro ⟨b, rfl⟩
      fin_cases b
      · exact Or.inl rfl
      · exact Or.inr rfl
  · intro j ha hb
    obtain ⟨p, rfl⟩ := descending_surjective w j
    have h0 : p.val ≠ 0 := fun h => ha (congrArg (descending w) (Fin.ext h))
    have h1 : p.val ≠ 1 := fun h => hb (congrArg (descending w) (Fin.ext h))
    exact ⟨descending_beats w (show (0 : ℕ) < p.val by omega), descending_beats w (show (1 : ℕ) < p.val by omega)⟩

/-- Moving along a row changes the column only. -/
theorem along_row (n : Fin 32768) (b k : Fin 64) : Shape.Idx.along (s := S32768x64) (ix2 n b) 1 k = ix2 n k := by
  funext a
  match a with
  | ⟨0, _⟩ => rfl
  | ⟨1, _⟩ => rfl

/-- The columns the reference keeps for a row. -/
theorem inds_at {v : FVec Ideal S32768x64 .f32} {n : Fin 32768} {w : Fin 64 → ℝ} (hv : ∀ k, v (ix2 n k) = (w k : EReal)) (b : Fin 2) :
    inds v (ix2 n b) = BitVec.ofNat 32 (descending w (kept2 b)).val := by
  have e : (fun k k' : Fin 64 => FloatOps.cmpfTotal (F := Ideal) (φ := .f32) .gt (v (ix2 n k)) (v (ix2 n k')) == 1#1) = fun a b => decide (w b < w a) := by
    funext a b
    rw [hv, hv]
    show (BitVec.ofBool (decide ((w b : EReal) < (w a : EReal))) == 1#1) = _
    simp only [EReal.coe_lt_coe_iff]
    by_cases h : w b < w a <;> simp [h]
  unfold inds Host.topK Host.sort2
  pointwise
  rw [descending_def, ← e]
  refine congrArg (fun k : Fin 64 => BitVec.ofNat 32 k.val) ?_
  have hj : ∀ k : Fin 64, Shape.Idx.along (s := S32768x64) (ix2 n ⟨b.val, by have := b.isLt; omega⟩) 1 k = ix2 n k := along_row n _
  refine (congrFun (hj _) 1).trans ?_
  refine congrFun (congrArg sortedFrom (funext fun k => funext fun k' => ?_)) _
  show (FloatOps.cmpfTotal (F := Ideal) (φ := .f32) .gt (v _) (v _) == 1#1) = _
  rw [hj k, hj k']

end Cert.Router.Ref

end
-- ==== Proof.RefRow.lean ====
/-
  The two results of the reference, read at one row and one expert.
-/
module

public import proofs.«01_k».proof.Proof.RefProbs
public import proofs.«01_k».proof.Proof.TopTwo
public import Idealize.ShloMosaic.Lib.Routing.Ops
public import Idealize.ShloMosaic.Lib.Routing.OpsSet
public import Idealize.ShloMosaic.Lib.Routing.OpsPair

@[expose] public section

set_option maxRecDepth 16384

noncomputable section

open Idealize.ShloMosaic
open scoped BigOperators Classical

namespace Cert.Router.Ref

open Cert.ReferenceIdeal Cert.ReferenceIdeal.Gen

/-- The two ways of writing a pair of coordinates agree. -/
theorem ix2_eq {a b : ℕ} (p : Fin a) (q : Fin b) : ValueIdx.ix2 p q = ix2 p q := by
  funext c
  match c with
  | ⟨0, _⟩ => rfl
  | ⟨1, _⟩ => rfl

/-- The two ways of writing a triple of coordinates agree. -/
theorem ix3_eq {a b c : ℕ} (p : Fin a) (q : Fin b) (r : Fin c) : ValueIdx.ix3 p q r = ix3 p q r := by
  funext d
  match d with
  | ⟨0, _⟩ => rfl
  | ⟨1, _⟩ => rfl
  | ⟨2, _⟩ => rfl

/-- The row numbers are never negative, so they stay. -/
theorem rowIds'_at (n : Fin 32768) : rowIds' (ix2 n 0) = BitVec.ofNat 32 n.val := by
  have h : rowIds (ix2 n 0) = BitVec.ofNat 32 n.val := by pointwise [rowIds]
  unfold rowIds'
  pointwise
  rw [h]
  exact Routing.wrap_of_lt _ _ (by have := n.isLt; rw [BitVec.toNat_ofNat]; omega)

/-- A column number below 64 stays. -/
theorem wrapCols_at {i : IVec S32768x2 32} {n : Fin 32768} {b : Fin 2} {k : Fin 64} (h : i (ix2 n b) = BitVec.ofNat 32 k.val) :
    wrapCols i (ix2 n b) = BitVec.ofNat 32 k.val := by
  unfold wrapCols
  pointwise
  rw [h]
  exact Routing.wrap_of_lt _ _ (by have := k.isLt; rw [BitVec.toNat_ofNat]; omega)

/-- The first coordinate of a scattered pair is its row. -/
theorem pairs_row (i : IVec S32768x2 32) (n : Fin 32768) (b : Fin 2) : pairs i (ix3 n b 0) = BitVec.ofNat 32 n.val := by
  rw [← rowIds'_at]
  pointwise [pairs]

/-- The second coordinate of a scattered pair is the column kept. -/
theorem pairs_col {i : IVec S32768x2 32} {n : Fin 32768} {b : Fin 2} {k : Fin 64} (h : i (ix2 n b) = BitVec.ofNat 32 k.val) :
    pairs i (ix3 n b 1) = BitVec.ofNat 32 k.val := by
  rw [← wrapCols_at h]
  pointwise [pairs]

/-- The word of a number below 32768, read as an integer. -/
theorem toInt_small {a : ℕ} (h : a < 32768) : (BitVec.ofNat 32 a).toInt = a := by
  rw [BitVec.toInt_eq_toNat_cond, BitVec.toNat_ofNat]
  omega

/-- The marked mask is set exactly at the columns named for the row. -/
theorem marked_at {i : IVec S32768x2 32} {σ : Fin 32768 → Fin 2 → Fin 64} (h : ∀ n b, i (ix2 n b) = BitVec.ofNat 32 (σ n b).val) (n : Fin 32768) (k : Fin 64) :
    marked i (ix2 n k) = BitVec.ofBool (decide (∃ b, σ n b = k)) := by
  have key : ∀ (a : Fin 32768) (b : Fin 2), scatter_S32768x64_S32768x2x2_S32768x2_n_01_01_2.resultIdx? (ix2 a b) (pairs i) = some (ix2 n k) ↔ a = n ∧ σ a b = k := by
    intro a b
    have hl := Routing.scatter_lands2 scatter_S32768x64_S32768x2x2_S32768x2_n_01_01_2 rfl rfl rfl (pairs i) a b n k
    rw [ix2_eq, ix2_eq, ix3_eq, ix3_eq] at hl
    rw [hl, pairs_row, pairs_col (h a b),
      toInt_small a.isLt, toInt_small (lt_trans (σ a b).isLt (by norm_num))]
    simp only [Nat.cast_inj, Fin.val_inj]
  unfold marked
  by_cases hk : ∃ b, σ n b = k
  · obtain ⟨b, hb⟩ := hk
    rw [decide_eq_true ⟨b, hb⟩]
    exact Routing.scatter_set_hit _ _ _ _ (ix2 n k) 1#1 (fun _ _ => rfl) (ix2 n b) ((key n b).2 ⟨rfl, hb⟩)
  · rw [decide_eq_false hk]
    refine (Routing.scatter_set_miss _ _ _ _ (ix2 n k) fun j hj => ?_).trans rfl
    obtain ⟨a, b, rfl⟩ : ∃ (a : Fin 32768) (b : Fin 2), j = ix2 a b := ⟨j 0, j 1, funext fun q => by match q with | ⟨0, _⟩ => rfl | ⟨1, _⟩ => rfl⟩
    obtain ⟨rfl, hb⟩ := (key a b).1 hj
    exact hk ⟨b, hb⟩

/-- The count of a row, compared with two. -/
theorem count_lt {v : IVec S32768x64 1} {n : Fin 32768} {P : Fin 64 → Prop} (h : ∀ k, v (ix2 n k) = BitVec.ofBool (decide (P k))) :
    IntOp.cmpi .slt (count v (ix1 n)) 2#32 = BitVec.ofBool (decide ((Finset.univ.filter P).card < 2)) := by
  have hc : (count v (ix1 n)).toNat = (Finset.univ.filter P).card := by
    unfold count
    rw [StableHlo.Predicate.toNat_reduce_count_cols (by norm_num) v natLt_1_32 reducesTo_S32768x64_S32768_d1 h_S_ (ix1 n)]
    refine congrArg Finset.card (Finset.filter_congr fun q _ => ?_)
    show v (StableHlo.Predicate.ij n q) = 1#1 ↔ P q
    rw [Routing.ij_eq_ix2, ix2_eq, h]
    by_cases hp : P q <;> simp [hp]
  have hle : (Finset.univ.filter P).card ≤ 64 := (Finset.card_le_univ _).trans (by simp)
  have := StableHlo.Predicate.slt_iff_toNat (a := count v (ix1 n)) (b := 2#32) (by rw [hc]; omega) (by decide)
  rw [hc] at this
  by_cases hp : (Finset.univ.filter P).card < 2
  · rw [this.2 hp, decide_eq_true hp]; rfl
  · rw [decide_eq_false hp]
    exact (BitVec.eq_zero_or_eq_one _).resolve_right fun e => hp (this.1 e)

variable {x : FVec Ideal S32768x768 .f32} {wg : FVec Ideal S8x768 .f32} {we : FVec Ideal S64x768 .f32} {A : Args}

/-- THE FIRST RESULT OF THE REFERENCE at row `n`, expert `k`. -/
theorem choose_at (h : A.Holds x wg we) (n : Fin 32768) (k : Fin 64) :
    choose (valid x wg we) (wts x wg we) (ix2 n k) = maskAt (A.g n) (A.e n) k := by
  have hm : marked (inds (wts x wg we)) (ix2 n k) = BitVec.ofBool (decide (Top2 (weight (A.g n) (A.e n)) k)) := by
    rw [marked_at (σ := fun n b => descending (weight (A.g n) (A.e n)) (kept2 b)) (fun n b => inds_at (wts_at h n) b)]
    exact congrArg BitVec.ofBool (decide_eq_decide.2 (top2_descending _ k).symm)
  unfold choose
  pointwise
  rw [count_lt (valid_at h n), hm, valid_at h, WordCmp.select_decide]
  unfold maskAt Chosen Few
  by_cases hf : (Finset.univ.filter (Valid (A.g n) (A.e n))).card < 2 <;> simp only [hf, if_true, if_false]

/-- The weights of the chosen experts. -/
theorem part_at (h : A.Holds x wg we) (n : Fin 32768) (k : Fin 64) :
    part (wts x wg we) (choose (valid x wg we) (wts x wg we)) (ix2 n k) = (kept (A.g n) (A.e n) k : EReal) := by
  unfold part
  pointwise
  rw [wts_at h, choose_at h]
  unfold maskAt kept
  have h1 : FloatOps.uitofp (F := Ideal) .f32 (1#1) = ((1 : ℝ) : EReal) := by
    show (((1#1 : BitVec 1).toNat : ℝ) : EReal) = _
    simp
  have h0 : FloatOps.uitofp (F := Ideal) .f32 (0#1) = ((0 : ℝ) : EReal) := by
    show (((0#1 : BitVec 1).toNat : ℝ) : EReal) = _
    simp
  by_cases hc : Chosen (A.g n) (A.e n) k
  · rw [decide_eq_true hc, if_pos hc]
    exact (congrArg _ h1).trans (by simp)
  · rw [decide_eq_false hc, if_neg hc]
    exact (congrArg _ h0).trans (by simp)

/-- THE SECOND RESULT OF THE REFERENCE at row `n`, expert `k`. -/
theorem share_at (h : A.Holds x wg we) (n : Fin 32768) (k : Fin 64) :
    share (part (wts x wg we) (choose (valid x wg we) (wts x wg we))) (ix2 n k) = shareAt (A.g n) (A.e n) k := by
  unfold share
  pointwise
  simp only [part_at h, coe_sum]
  unfold shareAt
  rw [max_comm]

end Cert.Router.Ref

end
-- ==== Proof.lean ====
/-
  The claims about the router kernel: the kernel and the reference run and leave their arguments unchanged with every semaphore
  counter at zero, and on finite arguments both end with the same mask and the same shares.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.KernelRun
public import proofs.«01_k».proof.Proof.RefRow
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Router
open Cert.ReferenceIdeal (S32768x768 S8x768 S64x768 S32768x64)

/-- An index of the results is the pair of its row and its expert. -/
theorem idx_eq (i : S32768x64.Idx) : i = ix2 (i 0) (i 1) := by
  funext q
  match q with
  | ⟨0, _⟩ => rfl
  | ⟨1, _⟩ => rfl

/-- The mask array of the reference is the mask array of the routing. -/
theorem ref_mask {x : FVec Ideal S32768x768 .f32} {wg : FVec Ideal S8x768 .f32} {we : FVec Ideal S64x768 .f32} {A : Args}
    (h : A.Holds x wg we) : Ref.choose (Ref.valid x wg we) (Ref.wts x wg we) = maskArr A := by
  funext i
  rw [idx_eq i]
  exact Ref.choose_at h (i 0) (i 1)

/-- The share array of the reference is the share array of the routing. -/
theorem ref_share {x : FVec Ideal S32768x768 .f32} {wg : FVec Ideal S8x768 .f32} {we : FVec Ideal S64x768 .f32} {A : Args}
    (h : A.Holds x wg we) :
    Ref.share (Ref.part (Ref.wts x wg we) (Ref.choose (Ref.valid x wg we) (Ref.wts x wg we))) = shareArr A := by
  funext i
  rw [idx_eq i]
  exact Ref.share_at h (i 0) (i 1)

/-- The reference leaves its arguments unchanged and every semaphore counter at zero. -/
theorem frame_ref : Cert.quiescent_ReferenceIdeal := fun m g _ =>
  (θ_run Cert.ReferenceIdeal.defs _ _).mono (fun r h => ⟨fun c => ⟨(h c).2.2.1, (h c).2.2.2.1, (h c).2.2.2.2⟩,
    sem_eq_zero_of_no_sems (by decide) r.2⟩) (Cert.ReferenceIdeal.Value.run (F := Ideal) m g)

/-- On finite arguments the kernel and the reference end with the same mask and the same shares. -/
theorem algebraic : Cert.algebraic_KernelIdeal_ReferenceIdeal_pre_finite := by
  intro m g m' g' hPre hArgs
  obtain ⟨A, hA⟩ : ∃ A : Dev Cert.KernelIdeal.nD → Args, HoldsAt m A := ⟨fun c => _, fun c => holds_of_finite (hPre c)⟩
  refine ⟨fun c => maskArr (A c), fun c => shareArr (A c), run_kernel g hA, ?_⟩
  refine (θ_run Cert.ReferenceIdeal.defs _ _).mono (fun r h c => ?_) (Cert.ReferenceIdeal.Value.run (F := Ideal) m' g')
  have hR : (A c).Holds (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) := by
    rw [(hArgs c).1, (hArgs c).2.1, (hArgs c).2.2]
    exact hA c
  exact ⟨((h c).1.trans (Ref.res_mask m' c)).trans (ref_mask hR), ((h c).2.1.trans (Ref.res_share m' c)).trans (ref_share hR), (h c).2.2⟩

/-- The certificate: every claim, with the witnesses of the side conditions the programs state. -/
theorem claim : Cert.Claim := ⟨Cert.Kernel.Gen.facts, Cert.KernelIdeal.Gen.facts, Cert.ReferenceIdeal.Gen.facts, Cert.Pre_finite.Gen.facts,
  fun m g _ => Cert.Kernel.Gen.frame m g,
  fun m g _ => Cert.KernelIdeal.Gen.frame m g,
  fun m g _ => Cert.KernelIdeal.Gen.frame m g,
  frame_ref,
  fun m g _ => frame_ref m g trivial,
  trivial,
  algebraic⟩

end Cert.Proof

end
